-- ==== Defs.lean ====
def Pre_Kernel [hPre_slots_in_pool : Cert.Pre_slots_in_pool.Facts] (m : (ℓ : Loc Cert.Kernel.nD Cert.Kernel.τ Cert.Kernel.sig) → Buf (Elt Bits) ℓ) : Prop :=
  ∀ c : Dev Cert.Kernel.nD,
    (Cert.Pre_slots_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_slots_in_pool : Cert.Pre_slots_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_in_pool [hPre_slots_in_pool : Cert.Pre_slots_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_slots_in_pool : Cert.Pre_slots_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_slots_in_pool : Cert.Pre_slots_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_slots_in_pool [hReferenceIdeal : Cert.ReferenceIdeal.Facts] [hPre_slots_in_pool : Cert.Pre_slots_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_pool : Cert.Pre_slots_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54_0) = v0 c
          ∧ r.2.mem ((c.tc : Thread Cert.ReferenceIdeal.nD Cert.ReferenceIdeal.τ).loc Cert.ReferenceIdeal.main_v54_1) = v1 c
          ∧ r.2.mem ((c.tc : Thread Cert.ReferenceIdeal.nD Cert.ReferenceIdeal.τ).loc Cert.ReferenceIdeal.main_v54_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_slots_in_pool : Cert.Pre_slots_in_pool.Facts),
    quiescent_Kernel (hKernel := hKernel) (hPre_slots_in_pool := hPre_slots_in_pool)
    ∧ quiescent_KernelIdeal (hKernelIdeal := hKernelIdeal) (hPre_slots_in_pool := hPre_slots_in_pool)
    ∧ quiescent_ReferenceIdeal (hReferenceIdeal := hReferenceIdeal)
    ∧ quiescent_ReferenceIdeal_pre_slots_in_pool (hReferenceIdeal := hReferenceIdeal) (hPre_slots_in_pool := hPre_slots_in_pool)
    ∧ preserves_Kernel_KernelIdeal
    ∧ algebraic_KernelIdeal_ReferenceIdeal (hKernelIdeal := hKernelIdeal) (hReferenceIdeal := hReferenceIdeal) (hPre_slots_in_pool := hPre_slots_in_pool)
-- ==== Pre_slots_in_pool.lean ====
abbrev S48x1x16x128 : Shape := ⟨4, ![48, 1, 16, 128]⟩
abbrev S48x1x32x256 : Shape := ⟨4, ![48, 1, 32, 256]⟩
abbrev S48x1x32 : Shape := ⟨3, ![48, 1, 32]⟩
abbrev S60x32x128x256 : Shape := ⟨4, ![60, 32, 128, 256]⟩
abbrev S60x32x128 : Shape := ⟨3, ![60, 32, 128]⟩
abbrev S48 : Shape := ⟨1, ![48]⟩
abbrev S_ : Shape := ⟨0, ![]⟩

class Facts : Prop where
  bcast_S_S48 : S_.BroadcastsInDim S48 (![] : Fin 0 → Fin S48.rank)

variable [Facts]

def fn {F : FTy → Type} [FloatOps F] (main_arg0 : FVec F S48x1x16x128 .bf16) (main_arg1 : FVec F S48x1x16x128 .bf16) (main_arg2 : FVec F S48x1x32x256 .bf16) (main_arg3 : FVec F S48x1x32 .f32) (main_arg4 : FVec F S48x1x32 .f32) (main_arg5 : FVec F S60x32x128x256 .fp8e4m3) (main_arg6 : FVec F S60x32x128 .f32) (main_arg7 : IVec S48 32) : IVec S48 1 :=
  let main_c : IVec S_ 32 := constantI S_ 32 0#32
  let main_v0 : IVec S48 32 := broadcastInDim S48 ![] bcast_S_S48 main_c
  let main_v1 : IVec S48 1 := cmpi .sge main_arg7 main_v0
  let main_c_0 : IVec S_ 32 := constantI S_ 32 60#32
  let main_v2 : IVec S48 32 := broadcastInDim S48 ![] bcast_S_S48 main_c_0
  let main_v3 : IVec S48 1 := cmpi .slt main_arg7 main_v2
  let main_v4 : IVec S48 1 := andi main_v1 main_v3
  main_v4
-- ==== Kernel.lean ====
abbrev S48x1x16x128 : Shape := ⟨4, ![48, 1, 16, 128]⟩
abbrev S48x1x32x256 : Shape := ⟨4, ![48, 1, 32, 256]⟩
abbrev S48x1x32 : Shape := ⟨3, ![48, 1, 32]⟩
abbrev S60x32x128x256 : Shape := ⟨4, ![60, 32, 128, 256]⟩
abbrev S60x32x128 : Shape := ⟨3, ![60, 32, 128]⟩
abbrev S48 : Shape := ⟨1, ![48]⟩
abbrev S48x32x256 : Shape := ⟨3, ![48, 32, 256]⟩
abbrev S48x32x128x256 : Shape := ⟨4, ![48, 32, 128, 256]⟩
abbrev S48x32x128 : Shape := ⟨3, ![48, 32, 128]⟩
abbrev S1x1x16x128 : Shape := ⟨4, ![1, 1, 16, 128]⟩
abbrev S1x1x32x256 : Shape := ⟨4, ![1, 1, 32, 256]⟩
abbrev S1x1x32 : Shape := ⟨3, ![1, 1, 32]⟩
abbrev S1x32x128x256 : Shape := ⟨4, ![1, 32, 128, 256]⟩
abbrev S1 : Shape := ⟨1, ![1]⟩
abbrev S1x32x128 : Shape := ⟨3, ![1, 32, 128]⟩
abbrev S1x32x256 : Shape := ⟨3, ![1, 32, 256]⟩
abbrev S16x128 : Shape := ⟨2, ![16, 128]⟩
abbrev S16 : Shape := ⟨1, ![16]⟩
abbrev S16x1 : Shape := ⟨2, ![16, 1]⟩
abbrev S1x32 : Shape := ⟨2, ![1, 32]⟩
abbrev S32x128 : Shape := ⟨2, ![32, 128]⟩
abbrev S128x32 : Shape := ⟨2, ![128, 32]⟩
abbrev S128x16 : Shape := ⟨2, ![128, 16]⟩
abbrev S1x128 : Shape := ⟨2, ![1, 128]⟩
abbrev S14x128 : Shape := ⟨2, ![14, 128]⟩
abbrev S1x1x128x256 : Shape := ⟨4, ![1, 1, 128, 256]⟩
abbrev S128x256 : Shape := ⟨2, ![128, 256]⟩
abbrev S16x256 : Shape := ⟨2, ![16, 256]⟩
abbrev S1x256 : Shape := ⟨2, ![1, 256]⟩
abbrev S1x1 : Shape := ⟨2, ![1, 1]⟩
abbrev S1x1x1x256 : Shape := ⟨4, ![1, 1, 1, 256]⟩
abbrev S1x1x256 : Shape := ⟨3, ![1, 1, 256]⟩
abbrev S1x2x256 : Shape := ⟨3, ![1, 2, 256]⟩
abbrev S128x1 : Shape := ⟨2, ![128, 1]⟩
abbrev S128 : Shape := ⟨1, ![128]⟩
abbrev S252x1x1 : Shape := ⟨3, ![252, 1, 1]⟩
abbrev S1x128x1 : Shape := ⟨3, ![1, 128, 1]⟩
abbrev S252x128x1 : Shape := ⟨3, ![252, 128, 1]⟩
abbrev S252x32x128 : Shape := ⟨3, ![252, 32, 128]⟩

abbrev nBuf : Space → Nat
  | .hbm => 10
  | .vmem => 20
  | .smem => 1
  | _ => 0

abbrev bufTy : (tb : Table) → Fin (tcTables nBuf tb) → BufTy
  | .hbm, ⟨0, _⟩ => ⟨S48x1x16x128, .bf16⟩
  | .hbm, ⟨1, _⟩ => ⟨S48x1x16x128, .bf16⟩
  | .hbm, ⟨2, _⟩ => ⟨S48x1x32x256, .bf16⟩
  | .hbm, ⟨3, _⟩ => ⟨S48x1x32, .f32⟩
  | .hbm, ⟨4, _⟩ => ⟨S48x1x32, .f32⟩
  | .hbm, ⟨5, _⟩ => ⟨S60x32x128x256, .fp8e4m3⟩
  | .hbm, ⟨6, _⟩ => ⟨S60x32x128, .f32⟩
  | .hbm, ⟨7, _⟩ => ⟨S48x32x256, .bf16⟩
  | .hbm, ⟨8, _⟩ => ⟨S48x32x128x256, .fp8e4m3⟩
  | .hbm, ⟨9, _⟩ => ⟨S48x32x128, .f32⟩
  | .local _ .vmem, ⟨0, _⟩ => ⟨S1x1x16x128, .bf16⟩
  | .local _ .vmem, ⟨1, _⟩ => ⟨S1x1x16x128, .bf16⟩
  | .local _ .vmem, ⟨2, _⟩ => ⟨S1x1x16x128, .bf16⟩
  | .local _ .vmem, ⟨3, _⟩ => ⟨S1x1x16x128, .bf16⟩
  | .local _ .vmem, ⟨4, _⟩ => ⟨S1x1x32x256, .bf16⟩
  | .local _ .vmem, ⟨5, _⟩ => ⟨S1x1x32x256, .bf16⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x32x128x256, .fp8e4m3⟩
  | .local _ .vmem, ⟨11, _⟩ => ⟨S1x32x128x256, .fp8e4m3⟩
  | .local _ .vmem, ⟨12, _⟩ => ⟨S1x32x128, .f32⟩
  | .local _ .vmem, ⟨13, _⟩ => ⟨S1x32x128, .f32⟩
  | .local _ .vmem, ⟨14, _⟩ => ⟨S1x32x256, .bf16⟩
  | .local _ .vmem, ⟨15, _⟩ => ⟨S1x32x256, .bf16⟩
  | .local _ .vmem, ⟨16, _⟩ => ⟨S1x32x128x256, .fp8e4m3⟩
  | .local _ .vmem, ⟨17, _⟩ => ⟨S1x32x128x256, .fp8e4m3⟩
  | .local _ .vmem, ⟨18, _⟩ => ⟨S1x32x128, .f32⟩
  | .local _ .vmem, ⟨19, _⟩ => ⟨S1x32x128, .f32⟩
  | .local _ .smem, ⟨0, _⟩ => ⟨S48, .i32⟩
  | _, _ => ⟨S48x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S48x1x16x128 : Shape := ⟨4, ![48, 1, 16, 128]⟩
abbrev S48x1x32x256 : Shape := ⟨4, ![48, 1, 32, 256]⟩
abbrev S48x1x32 : Shape := ⟨3, ![48, 1, 32]⟩
abbrev S60x32x128x256 : Shape := ⟨4, ![60, 32, 128, 256]⟩
abbrev S60x32x128 : Shape := ⟨3, ![60, 32, 128]⟩
abbrev S48 : Shape := ⟨1, ![48]⟩
abbrev S48x16x128 : Shape := ⟨3, ![48, 16, 128]⟩
abbrev S_ : Shape := ⟨0, ![]⟩
abbrev S48x16 : Shape := ⟨2, ![48, 16]⟩
abbrev S48x16x1 : Shape := ⟨3, ![48, 16, 1]⟩
abbrev S48x16x2x128 : Shape := ⟨4, ![48, 16, 2, 128]⟩
abbrev S48x32x128 : Shape := ⟨3, ![48, 32, 128]⟩
abbrev S48x16x2 : Shape := ⟨3, ![48, 16, 2]⟩
abbrev S48x32 : Shape := ⟨2, ![48, 32]⟩
abbrev S48x32x256 : Shape := ⟨3, ![48, 32, 256]⟩
abbrev S48x32x1 : Shape := ⟨3, ![48, 32, 1]⟩
abbrev S48x1 : Shape := ⟨2, ![48, 1]⟩
abbrev S48x32x128x256 : Shape := ⟨4, ![48, 32, 128, 256]⟩
abbrev S48x32x128x1 : Shape := ⟨4, ![48, 32, 128, 1]⟩
abbrev S48x32x1x1 : Shape := ⟨4, ![48, 32, 1, 1]⟩
abbrev S48x32x1x256 : Shape := ⟨4, ![48, 32, 1, 256]⟩
abbrev S1x48x32x128 : Shape := ⟨4, ![1, 48, 32, 128]⟩
abbrev S253x1x1x1 : Shape := ⟨4, ![253, 1, 1, 1]⟩
abbrev S253x48x32x128 : Shape := ⟨4, ![253, 48, 32, 128]⟩

abbrev nBuf : Space → Nat
  | .hbm => 75
  | .vmem => 11
  | .smem => 0
  | _ => 0

abbrev bufTy : (tb : Table) → Fin (tcTables nBuf tb) → BufTy
  | .hbm, ⟨0, _⟩ => ⟨S48x1x16x128, .bf16⟩
  | .hbm, ⟨1, _⟩ => ⟨S48x1x16x128, .bf16⟩
  | .hbm, ⟨2, _⟩ => ⟨S48x1x32x256, .bf16⟩
  | .hbm, ⟨3, _⟩ => ⟨S48x1x32, .f32⟩
  | .hbm, ⟨4, _⟩ => ⟨S48x1x32, .f32⟩
  | .hbm, ⟨5, _⟩ => ⟨S60x32x128x256, .fp8e4m3⟩
  | .hbm, ⟨6, _⟩ => ⟨S60x32x128, .f32⟩
  | .hbm, ⟨7, _⟩ => ⟨S48, .i32⟩
  | .hbm, ⟨8, _⟩ => ⟨S48x16x128, .bf16⟩
  | .hbm, ⟨9, _⟩ => ⟨S48x16x128, .f32⟩
  | .hbm, ⟨10, _⟩ => ⟨S48x16x128, .f32⟩
  | .hbm, ⟨11, _⟩ => ⟨S_, .f32⟩
  | .hbm, ⟨12, _⟩ => ⟨S48x16, .f32⟩
  | .hbm, ⟨13, _⟩ => ⟨S48x16x1, .f32⟩
  | .hbm, ⟨14, _⟩ => ⟨S_, .f32⟩
  | .hbm, ⟨15, _⟩ => ⟨S48x16x1, .f32⟩
  | .hbm, ⟨16, _⟩ => ⟨S48x16x1, .f32⟩
  | .hbm, ⟨17, _⟩ => ⟨S48x16x1, .f32⟩
  | .hbm, ⟨18, _⟩ => ⟨S48x16x128, .f32⟩
  | .hbm, ⟨19, _⟩ => ⟨S48x16x128, .f32⟩
  | .hbm, ⟨20, _⟩ => ⟨S_, .f32⟩
  | .hbm, ⟨21, _⟩ => ⟨S48x16x128, .f32⟩
  | .hbm, ⟨22, _⟩ => ⟨S48x16x128, .f32⟩
  | .hbm, ⟨23, _⟩ => ⟨S48x16x128, .bf16⟩
  | .hbm, ⟨24, _⟩ => ⟨S48x16x128, .bf16⟩
  | .hbm, ⟨25, _⟩ => ⟨S48x16x128, .f32⟩
  | .hbm, ⟨26, _⟩ => ⟨S48x16x128, .f32⟩
  | .hbm, ⟨27, _⟩ => ⟨S_, .f32⟩
  | .hbm, ⟨28, _⟩ => ⟨S48x16, .f32⟩
  | .hbm, ⟨29, _⟩ => ⟨S48x16x1, .f32⟩
  | .hbm, ⟨30, _⟩ => ⟨S_, .f32⟩
  | .hbm, ⟨31, _⟩ => ⟨S48x16x1, .f32⟩
  | .hbm, ⟨32, _⟩ => ⟨S48x16x1, .f32⟩
  | .hbm, ⟨33, _⟩ => ⟨S48x16x1, .f32⟩
  | .hbm, ⟨34, _⟩ => ⟨S48x16x128, .f32⟩
  | .hbm, ⟨35, _⟩ => ⟨S48x16x128, .f32⟩
  | .hbm, ⟨36, _⟩ => ⟨S_, .f32⟩
  | .hbm, ⟨37, _⟩ => ⟨S48x16x128, .f32⟩
  | .hbm, ⟨38, _⟩ => ⟨S48x16x128, .f32⟩
  | .hbm, ⟨39, _⟩ => ⟨S48x16x128, .bf16⟩
  | .hbm, ⟨40, _⟩ => ⟨S48x16, .f32⟩
  | .hbm, ⟨41, _⟩ => ⟨S48x16x2x128, .bf16⟩
  | .hbm, ⟨42, _⟩ => ⟨S48x32x128, .bf16⟩
  | .hbm, ⟨43, _⟩ => ⟨S48x16x2x128, .bf16⟩
  | .hbm, ⟨44, _⟩ => ⟨S48x32x128, .bf16⟩
  | .hbm, ⟨45, _⟩ => ⟨S48x16x2, .f32⟩
  | .hbm, ⟨46, _⟩ => ⟨S48x32, .f32⟩
  | .hbm, ⟨47, _⟩ => ⟨S48x32x256, .bf16⟩
  | .hbm, ⟨48, _⟩ => ⟨S48x32, .f32⟩
  | .hbm, ⟨49, _⟩ => ⟨S48x32, .f32⟩
  | .hbm, ⟨50, _⟩ => ⟨S48x32x1, .f32⟩
  | .hbm, ⟨51, _⟩ => ⟨S48x32, .f32⟩
  | .hbm, ⟨52, _⟩ => ⟨S48x32x1, .f32⟩
  | .hbm, ⟨53, _⟩ => ⟨S48x32x1, .f32⟩
  | .hbm, ⟨54, _⟩ => ⟨S_, .i32⟩
  | .hbm, ⟨55, _⟩ => ⟨S48, .i32⟩
  | .hbm, ⟨56, _⟩ => ⟨S48, .i1⟩
  | .hbm, ⟨57, _⟩ => ⟨S_, .i32⟩
  | .hbm, ⟨58, _⟩ => ⟨S48, .i32⟩
  | .hbm, ⟨59, _⟩ => ⟨S48, .i32⟩
  | .hbm, ⟨60, _⟩ => ⟨S48, .i32⟩
  | .hbm, ⟨61, _⟩ => ⟨S48x1, .i32⟩
  | .hbm, ⟨62, _⟩ => ⟨S48x32x128x256, .fp8e4m3⟩
  | .hbm, ⟨63, _⟩ => ⟨S_, .i32⟩
  | .hbm, ⟨64, _⟩ => ⟨S48, .i32⟩
  | .hbm, ⟨65, _⟩ => ⟨S48, .i1⟩
  | .hbm, ⟨66, _⟩ => ⟨S_, .i32⟩
  | .hbm, ⟨67, _⟩ => ⟨S48, .i32⟩
  | .hbm, ⟨68, _⟩ => ⟨S48, .i32⟩
  | .hbm, ⟨69, _⟩ => ⟨S48, .i32⟩
  | .hbm, ⟨70, _⟩ => ⟨S48x1, .i32⟩
  | .hbm, ⟨71, _⟩ => ⟨S48x32x128, .f32⟩
  | .hbm, ⟨72, _⟩ => ⟨S48x32x256, .bf16⟩
  | .hbm, ⟨73, _⟩ => ⟨S48x32x128x256, .fp8e4m3⟩
  | .hbm, ⟨74, _⟩ => ⟨S48x32x128, .f32⟩
  | .local _ .vmem, ⟨0, _⟩ => ⟨S48x32x128, .bf16⟩
  | .local _ .vmem, ⟨1, _⟩ => ⟨S48x32x128, .bf16⟩
  | .local _ .vmem, ⟨2, _⟩ => ⟨S48x32x256, .bf16⟩
  | .local _ .vmem, ⟨3, _⟩ => ⟨S48x32x1, .f32⟩
  | .local _ .vmem, ⟨4, _⟩ => ⟨S48x32x1, .f32⟩
  | .local _ .vmem, ⟨5, _⟩ => ⟨S48x32x1, .f32⟩
  | .local _ .vmem, ⟨6, _⟩ => ⟨S48x32x128x256, .fp8e4m3⟩
  | .local _ .vmem, ⟨7, _⟩ => ⟨S48x32x128, .f32⟩
  | .local _ .vmem, ⟨8, _⟩ => ⟨S48x32x256, .bf16⟩
  | .local _ .vmem, ⟨9, _⟩ => ⟨S48x32x128x256, .fp8e4m3⟩
  | .local _ .vmem, ⟨10, _⟩ => ⟨S48x32x128, .f32⟩
  | _, _ => ⟨S48x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54_0 : Ref sig .tc := ⟨.hbm, 72, rfl⟩
abbrev main_v54_1 : Ref sig .tc := ⟨.hbm, 73, rfl⟩
abbrev main_v54_2 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S48x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x32x128x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x32x128x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pool.lean ====
/-
  The precondition read as a bound: every word of the table of slots is a row of the pool, from 0 to 59.
-/
module

public import proofs.«01_k».proof.Defs
public import proofs.«01_k».proof.Proof.Gen.Pre_slots_in_pool

@[expose] public section

namespace Cert.Pool

open Idealize.ShloMosaic

/-- Where the predicate is all ones, each word of the table is at most 59. -/
theorem slot_lt {F : FTy → Type} [FloatOps F] (a0 a1 a2 a3 a4 a5 a6) (a7 : IVec Pre_slots_in_pool.S48 32)
    (h : Pre_slots_in_pool.fn (F := F) a0 a1 a2 a3 a4 a5 a6 a7 = fun _ => 1#1) (x : Pre_slots_in_pool.S48.Idx) : (a7 x).toNat < 60 := by
  have e := congrFun h x
  have andi_one (a b : BitVec 1) : IntOp.andi a b = 1#1 ↔ a = 1#1 ∧ b = 1#1 := by revert a b; decide
  have ofBool_eq_one (p : Bool) : (BitVec.ofBool p = 1#1) ↔ p = true := by cases p <;> decide
  simp only [Pre_slots_in_pool.fn, constantI, broadcastInDim, cmpi, andi, andi_one, IntOp.cmpi, ofBool_eq_one, BitVec.sle, BitVec.slt,
    decide_eq_true_eq, BitVec.toInt] at e
  have := (a7 x).isLt
  simp at e
  omega

end Cert.Pool
-- ==== Proof.Kernel.Points.lean ====
/-
  The kernel's schedule on its grid: at which points the pipeline fetches a window and at which it writes one back, the
  staging buffer a window is on at a point, and the body as the pipeline calls it there. Everything is stated at any
  admissible contents of the table of slots, which the index maps of the two windows over the state's pool read.
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
-- window 5: no schedule fact — its index map reads a prefetched table, so where it is fetched or written back depends on the tables' contents
-- window 6: no schedule fact — its index map reads a prefetched table, so where it is fetched or written back depends on the tables' contents
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gdr_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.Kernel.Gen

end
-- ==== Proof.Kernel.Kit.lean ====
/-
  What the frame's modules share: the arrays as the grid finds them (`V`), the table of slots read off the launch memory
  (`tbl`) and the condition on it under which the pipeline runs (`Ok`), each window's block at a point (`iblk`), that an
  input's staging buffer holds its block (`before0_0_of` and the like), the frame from a run of the pipeline (`frame_of`), and the staging
  buffers' names.
-/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`). The frame holds
    under it; `Slots.lean` proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (by decide : main_arg7 ∈ Pipeline.restRefs sig spec0)).trans (V_main_arg7 m c)⟩) h

/-! ## The staging buffers at a point -/

/-- Each window's current staging memref at point `t`, spelled as the pipeline passes it (`bodyAt0`), and its wholeness. -/
abbrev ms0_0 (hO : Ok m) (t : Fin (cfgM m hO).N) : Memref sig .tc .vmem S1x1x16x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x16x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x32x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x32 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x32 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x32x128x256 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x32x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x32x256 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x32x128x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x32x128 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.Kernel.Gen

end
-- ==== Proof.Kernel.Run.lean ====
/-
  One run of the kernel's body, at any point of the grid (`kernelRun0_A`): on staging buffers holding any blocks it ends
  with the argument buffers as they were and each result's buffer with a list of stores made to it. The lists are
  found by the run; `Contents.lean` says what they are. The first result's list depends on what its buffer held
  before, because a row of it is stored by loading the two rows that share its words.
-/
module

public import proofs.«01_k».proof.Proof.Kernel.Kit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1856000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x16x128 .bf16) (harg2 : arg2.IsWhole) (arg3 : Memref sig .tc .vmem S1x1x16x128 .bf16) (harg3 : arg3.IsWhole) (arg4 : Memref sig .tc .vmem S1x1x32x256 .bf16) (harg4 : arg4.IsWhole) (arg5 : Memref sig .tc .vmem S1x1x32 .f32) (harg5 : arg5.IsWhole) (arg6 : Memref sig .tc .vmem S1x1x32 .f32) (harg6 : arg6.IsWhole) (arg7 : Memref sig .tc .vmem S1x32x128x256 .fp8e4m3) (harg7 : arg7.IsWhole) (arg8 : Memref sig .tc .vmem S1x32x128 .f32) (harg8 : arg8.IsWhole) (arg9 : Memref sig .tc .vmem S1x32x256 .bf16) (harg9 : arg9.IsWhole) (arg10 : Memref sig .tc .vmem S1x32x128x256 .fp8e4m3) (harg10 : arg10.IsWhole) (arg11 : Memref sig .tc .vmem S1x32x128 .f32) (harg11 : arg11.IsWhole)
    (x0 : Vec F S1x1x16x128 .bf16) (x1 : Vec F S1x1x16x128 .bf16) (x2 : Vec F S1x1x32x256 .bf16) (x3 : Vec F S1x1x32 .f32) (x4 : Vec F S1x1x32 .f32) (x5 : Vec F S1x32x128x256 .fp8e4m3) (x6 : Vec F S1x32x128 .f32) (xt0 : TbBuf0 (F := F) c tbM0_0) :
    Σ' (L7 : Buf (Elt F) (arg9.view.loc (c : Thread nD τ)) → List (View.Piece (Elt F) S1x32x256 .bf16)), Σ' (L8 : List (View.Piece (Elt F) S1x32x128x256 .fp8e4m3)), { L9 : List (View.Piece (Elt F) S1x32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f (L7 f)) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ tbPt0 c tbM0_0 xt0) -∗ K ⟨⟩))
          ⊢ wp frame (wpE (defs₀ (F := F)) Variants.none c none) E (cc0_gdr_decode i tbM0_0 htbM0_0 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gdr_decode_eq_skeleton]; unfold cc0_gdr_decode_skel
    simp only [k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexact HT0

end Cert.Kernel.Gen

end
-- ==== Proof.Kernel.Head.lean ====
/-
  What the kernel's body computes for one of the 32 value heads, as functions of the head's number `h`: the printed body
  repeats the same operations for every head, at other rows and columns, and cuts them into payloads at other places.
  `headOut` is the row of the first result, `headCodes` the block of the second, `headAmax` the largest magnitude of each
  row of the new state, from which `blockScales` makes the third. `QK`, `K` are the group's queries and keys, `G` the logarithm of the
  decay, `B` the step sizes, `S` the state's scales, `C` the head's codes and `v` its row of values.
-/
module

public import proofs.«01_k».proof.Proof.Gen.Kernel.Skeleton

@[expose] public section

noncomputable section

namespace Cert.Kernel.Gen

open Idealize.ShloMosaic Idealize.SL.Sem

variable {F : FTy → Type} [FloatOps F]

theorem row32_slices (h : Fin 32) : S32x128.Slices ![h.val, 0] S1x128 := by revert h; decide
theorem row16_slices (h : Fin 32) : S16x128.Slices ![h.val / 2, 0] S1x128 := by revert h; decide
theorem col32_slices (h : Fin 32) : S128x32.Slices ![0, h.val] S128x1 := by revert h; decide
theorem col16_slices (h : Fin 32) : S128x16.Slices ![0, h.val / 2] S128x1 := by revert h; decide
theorem one32_slices (h : Fin 32) : S1x32.Slices ![0, h.val] S1x1 := by revert h; decide
theorem one16_slices (h : Fin 32) : S16x1.Slices ![h.val / 2, 0] S1x1 := by revert h; decide

/-- The two products with the state, keys in row 0 and queries in row 1, before the decay. -/
def headDot (Q K : Vec F S1x1x16x128 .bf16) (S : Vec F S1x32x128 .f32) (h : Fin 32) (C : Vec F S1x1x128x256 .fp8e4m3) :
    FVec F S16x256 .f32 :=
  matmul dot_S16x128_S128x256_S16x256_1_0_0_1_n_n none
    (truncf .bf16 (concatenate S16x128 0
      [⟨S1x128, mulf (extractStridedSlice S1x128 ![h.val / 2, 0] (k0_pay3 K) (row16_slices h)) (extractStridedSlice S1x128 ![h.val, 0] (k0_pay7 S) (row32_slices h))⟩,
       ⟨S1x128, mulf (extractStridedSlice S1x128 ![h.val / 2, 0] (k0_pay2 Q) (row16_slices h)) (extractStridedSlice S1x128 ![h.val, 0] (k0_pay7 S) (row32_slices h))⟩,
       ⟨S14x128, broadcast S14x128 (Scalar.ofBits .f32 0x00000000#32 : F .f32)⟩]
      concatenates_S1x128_S1x128_S14x128_S16x128_d0) bitsLt_bf16_f32)
    (extf .bf16 (shapeCast S128x256 C shapeCasts_S1x1x128x256_S128x256) bitsLt_fp8e4m3_bf16)
    (constant S16x256 .f32 0x00000000#32)

/-- The head's decay. -/
def headDecay (G : Vec F S1x1x32 .f32) (h : Fin 32) : FVec F S1x1 .f32 :=
  extractStridedSlice S1x1 ![0, h.val] (k0_pay5 G) (one32_slices h)

/-- The correction of the state: the step size times the value less what the decayed state answers to the key. -/
def headDelta (Q K : Vec F S1x1x16x128 .bf16) (G B : Vec F S1x1x32 .f32) (S : Vec F S1x32x128 .f32) (h : Fin 32)
    (C : Vec F S1x1x128x256 .fp8e4m3) (v : Vec F S1x1x1x256 .bf16) : FVec F S1x256 .f32 :=
  mulf (broadcastTo S1x256 (extractStridedSlice S1x1 ![0, h.val] (k0_pay6 B) (one32_slices h)) broadcasts_S1x1_S1x256)
    (subf (extf .f32 (shapeCast S1x256 v shapeCasts_S1x1x1x256_S1x256) bitsLt_bf16_f32)
      (mulf (broadcastTo S1x256 (headDecay G h) broadcasts_S1x1_S1x256)
        (extractStridedSlice S1x256 ![0, 0] (headDot Q K S h C) slices_S16x256_o0_0_S1x256)))

/-- The head's row of the first result. -/
def headOut (Q K : Vec F S1x1x16x128 .bf16) (G B : Vec F S1x1x32 .f32) (S : Vec F S1x32x128 .f32) (h : Fin 32)
    (C : Vec F S1x1x128x256 .fp8e4m3) (v : Vec F S1x1x1x256 .bf16) : FVec F S1x1x256 .bf16 :=
  shapeCast S1x1x256 (truncf .bf16 (addf
    (mulf (broadcastTo S1x256 (headDecay G h) broadcasts_S1x1_S1x256)
      (extractStridedSlice S1x256 ![1, 0] (headDot Q K S h C) slices_S16x256_o1_0_S1x256))
    (mulf (broadcastTo S1x256 (extractStridedSlice S1x1 ![h.val / 2, 0] (k0_pay4 Q K) (one16_slices h)) broadcasts_S1x1_S1x256)
      (headDelta Q K G B S h C v))) bitsLt_bf16_f32) shapeCasts_S1x256_S1x1x256

/-- The head's new state. -/
def headState (Q K : Vec F S1x1x16x128 .bf16) (G B : Vec F S1x1x32 .f32) (S : Vec F S1x32x128 .f32) (h : Fin 32)
    (C : Vec F S1x1x128x256 .fp8e4m3) (v : Vec F S1x1x1x256 .bf16) : FVec F S128x256 .f32 :=
  addf
    (mulf (broadcastTo S128x256 (mulf (extractStridedSlice S128x1 ![0, h.val] (k0_pay8 S) (col32_slices h))
        (broadcastTo S128x1 (headDecay G h) broadcasts_S1x1_S128x1)) broadcasts_S128x1_S128x256)
      (extf .f32 (shapeCast S128x256 C shapeCasts_S1x1x128x256_S128x256) bitsLt_fp8e4m3_f32))
    (mulf (broadcastTo S128x256 (extractStridedSlice S128x1 ![0, h.val / 2] (k0_pay9 (k0_pay3 K)) (col16_slices h)) broadcasts_S128x1_S128x256)
      (broadcastTo S128x256 (headDelta Q K G B S h C v) broadcasts_S1x256_S128x256))

/-- The largest magnitude in each row of a state. -/
def stateAmax (s : FVec F S128x256 .f32) : FVec F S128x1 .f32 :=
  shapeCast S128x1 (multiReduction .maximumf [1] S128 (absf s) 0xFF800000#32 reduces_S128x256_S128 (.inl rfl) rfl) shapeCasts_S128_S128x1

/-- The codes of a state: each row times the inverse of its scale, clipped and rounded. -/
def stateCodes (s : FVec F S128x256 .f32) : FVec F S1x1x128x256 .fp8e4m3 :=
  k0_pay19 (truncf .fp8e4m3
    (minimumf (broadcast S128x256 (Scalar.ofBits .f32 0x43E00000#32 : F .f32))
      (maximumf (broadcast S128x256 (Scalar.ofBits .f32 0xC3E00000#32 : F .f32))
        (mulf s (broadcastTo S128x256 (bitcastToFloat .f32 (shli
          (select (cmpf .oeq (stateAmax s) (broadcast S128x1 (Scalar.ofBits .f32 0x00000000#32 : F .f32)))
            (broadcast S128x1 127#32)
            (subi (broadcast S128x1 253#32)
              (multiReductionI .add [0] S128x1
                (select
                  (cmpf .oge
                    (broadcastTo S252x128x1 (shapeCast S1x128x1 (mulf (stateAmax s) (broadcast S128x1 (Scalar.ofBits .f32 0x3B124925#32 : F .f32))) shapeCasts_S128x1_S1x128x1) broadcasts_S1x128x1_S252x128x1)
                    (broadcastTo S252x128x1 (bitcastToFloat .f32 (shli (addi (iota .tc S252x1x1 32 [0] iota_S252x1x1_d0_w32) (broadcast S252x1x1 1#32)) (broadcast S252x1x1 23#32)) : FVec F S252x1x1 .f32) broadcasts_S252x1x1_S252x128x1))
                  (broadcast S252x128x1 1#32) (broadcast S252x128x1 0#32))
                0#32 reduces_S252x128x1_S128x1 rfl)))
          (broadcast S128x1 23#32))) broadcasts_S128x1_S128x256)))) bitsLt_fp8e4m3_f32)

/-- The head's block of the second result. -/
def headCodes (Q K : Vec F S1x1x16x128 .bf16) (G B : Vec F S1x1x32 .f32) (S : Vec F S1x32x128 .f32) (h : Fin 32)
    (C : Vec F S1x1x128x256 .fp8e4m3) (v : Vec F S1x1x1x256 .bf16) : FVec F S1x1x128x256 .fp8e4m3 :=
  stateCodes (headState Q K G B S h C v)

/-- The largest magnitudes of the head's new state, row by row. -/
def headAmax (Q K : Vec F S1x1x16x128 .bf16) (G B : Vec F S1x1x32 .f32) (S : Vec F S1x32x128 .f32) (h : Fin 32)
    (C : Vec F S1x1x128x256 .fp8e4m3) (v : Vec F S1x1x1x256 .bf16) : FVec F S128x1 .f32 :=
  stateAmax (headState Q K G B S h C v)

/-- The block of the third result, from the largest magnitudes of all heads. -/
def blockScales (A : Fin 32 → FVec F S128x1 .f32) : FVec F S1x32x128 .f32 :=
  k0_pay1
    (k0_pay368 (A 0) (A 1) (A 2) (A 3) (A 4) (A 5) (A 6) (A 7) (A 8) (A 9) (A 10) (A 11) (A 12) (A 13) (A 14) (A 15)
      (A 16) (A 17) (A 18) (A 19) (A 20) (A 21) (A 22) (A 23) (A 24) (A 25) (A 26) (A 27) (A 28) (A 29) (A 30) (A 31))
    (k0_pay369 (A 0) (A 1) (A 2) (A 3) (A 4) (A 5) (A 6) (A 7) (A 8) (A 9) (A 10) (A 11) (A 12) (A 13) (A 14) (A 15)
      (A 16) (A 17) (A 18) (A 19) (A 20) (A 21) (A 22) (A 23) (A 24) (A 25) (A 26) (A 27) (A 28) (A 29) (A 30) (A 31))
    127#32

end Cert.Kernel.Gen

end
-- ==== Proof.Kernel.Block.lean ====
/-
  The blocks a grid point's body leaves in its three result buffers, and the lists of stores that leave them. A head's
  row of the first result is half of a two-row word, so a store loads the two rows and puts its own among them
  (`outPieces`: two stores per pair of heads); the second result is stored head by head (`codePieces`), the third at once.
  `read_outPieces` and `read_codePieces` say that the stores leave `outBlock` and `codeBlock`, whatever was there before.
-/
module

public import proofs.«01_k».proof.Proof.Kernel.Head
public import Idealize.ShloMosaic.Lib.Pipeline.FrameBody
public import Idealize.ShloMosaic.Lib.ValueIdxCore

@[expose] public section

noncomputable section

namespace Cert.Kernel.Gen

open Idealize.ShloMosaic Idealize.SL.Sem
open Idealize.ShloMosaic.ValueIdx
open Idealize.ShloMosaic.View (ld)

variable {F : FTy → Type} [FloatOps F]

theorem rowRect_inb (h : Fin 32) : ∀ a, (![0, 0, h.val, 0] : Fin 4 → Nat) a + S1x1x1x256.size a ≤ S1x1x32x256.size a := by
  revert h; decide
theorem headRect_inb (h : Fin 32) : ∀ a, (![0, h.val, 0, 0] : Fin 4 → Nat) a + S1x1x128x256.size a ≤ S1x32x128x256.size a := by
  revert h; decide
theorem pairRect_inb (j : Fin 16) : ∀ a, (![0, 2 * j.val, 0] : Fin 3 → Nat) a + S1x2x256.size a ≤ S1x32x256.size a := by
  revert j; decide

/-- Head `h`'s row of the values. -/
abbrev rowRect (h : Fin 32) : Rect S1x1x32x256 := Rect.unit (s := S1x1x32x256) ![0, 0, h.val, 0] S1x1x1x256.size (rowRect_inb h)
/-- Head `h`'s block of the codes. -/
abbrev headRect (h : Fin 32) : Rect S1x32x128x256 := Rect.unit (s := S1x32x128x256) ![0, h.val, 0, 0] S1x1x128x256.size (headRect_inb h)
/-- The two rows of the first result that share their words. -/
abbrev pairRect (j : Fin 16) : Rect S1x32x256 := Rect.unit (s := S1x32x256) ![0, 2 * j.val, 0] S1x2x256.size (pairRect_inb j)

/-! ## The first result's stores -/

section
variable {sg : RefSig} {κ : Kind} {sp : Space} (v : View sg κ sp S1x32x256 .bf16) (f : v.ty.Contents (Elt F))
  (p : Fin 32 → Vec F S1x1x256 .bf16)

/-- The stores of the first `n` pairs of heads, last first. -/
def outPieces : (n : ℕ) → n ≤ 16 → List (View.Piece (Elt F) S1x32x256 .bf16)
  | 0, _ => []
  | n + 1, hn =>
    ⟨pairRect ⟨n, hn⟩, updateSlice (s := S1x2x256) (u := S1x1x256)
        (v.readCov (⟨pairRect ⟨n, hn⟩, updateSlice (s := S1x2x256) (u := S1x1x256)
          (v.readAt (Elt F) (pairRect ⟨n, hn⟩).toLoadRect f) (p ⟨2 * n, by omega⟩) ![0, 0, 0] slices_S1x2x256_S1x1x256_0_0_0⟩
          :: outPieces n (by omega)) (pairRect ⟨n, hn⟩).toLoadRect)
        (p ⟨2 * n + 1, by omega⟩) ![0, 1, 0] slices_S1x2x256_S1x1x256_0_1_0⟩
      :: ⟨pairRect ⟨n, hn⟩, updateSlice (s := S1x2x256) (u := S1x1x256)
          (v.readAt (Elt F) (pairRect ⟨n, hn⟩).toLoadRect f) (p ⟨2 * n, by omega⟩) ![0, 0, 0] slices_S1x2x256_S1x1x256_0_0_0⟩
      :: outPieces n (by omega)

theorem outPieces_cover : (n : ℕ) → (hn : n ≤ 16) → (y : S1x32x256.Idx) → (y 1).val < 2 * n →
    ∃ pc ∈ outPieces v f p n hn, y ∈ pc.1.set
  | 0, _, y, h => by omega
  | n + 1, hn, y, h => by
    by_cases hy : (y 1).val < 2 * n
    · obtain ⟨pc, h1, h2⟩ := outPieces_cover n (by omega) y hy
      exact ⟨pc, List.mem_cons_of_mem _ (List.mem_cons_of_mem _ h1), h2⟩
    · refine ⟨_, List.mem_cons_self, (Rect.mem_set_unit (inb := pairRect_inb _)).mpr fun a => ?_⟩
      have h0 : (y 0).val < 1 := (y 0).isLt
      have h2 : (y 2).val < 256 := (y 2).isLt
      match a with
      | ⟨0, _⟩ => exact ⟨Nat.zero_le _, by simpa using h0⟩
      | ⟨1, _⟩ => exact ⟨by simpa using hy, by simpa [S1x2x256] using (by omega : (y 1).val < 2 * n + 2)⟩
      | ⟨2, _⟩ => exact ⟨Nat.zero_le _, by simpa [S1x2x256] using h2⟩

theorem updateSlice_row {α : Type} (x : S1x2x256.Idx → α) (u : S1x1x256.Idx → α) (r : Fin 2) (hs : S1x2x256.Slices ![0, r.val, 0] S1x1x256)
    (q : Fin 2) (d : Fin 256) :
    updateSlice (s := S1x2x256) (u := S1x1x256) x u ![0, r.val, 0] hs (ix3 (0 : Fin 1) q d)
      = if q = r then u (ix3 (0 : Fin 1) (0 : Fin 1) d) else x (ix3 (0 : Fin 1) q d) := by
  unfold updateSlice
  by_cases hq : q = r
  · subst hq
    rw [if_pos rfl, dif_pos]
    · congr 1
      funext b
      match b with
      | ⟨0, _⟩ => rfl
      | ⟨1, _⟩ => exact Fin.ext (Nat.sub_self _)
      | ⟨2, _⟩ => rfl
    · intro a
      match a with
      | ⟨0, _⟩ => exact ⟨Nat.le_refl _, Nat.zero_lt_one⟩
      | ⟨1, _⟩ => exact ⟨Nat.le_refl _, Nat.lt_succ_self _⟩
      | ⟨2, _⟩ => exact ⟨Nat.zero_le _, by simpa [S1x1x256] using d.isLt⟩
  · rw [if_neg hq, dif_neg]
    intro h
    have h1 := h 1
    apply hq
    have e : r.val ≤ q.val ∧ q.val < r.val + 1 := h1
    exact Fin.ext (by omega)

theorem canon_outPieces : (n : ℕ) → (hn : n ≤ 16) → (h : Fin 32) → (d : Fin 256) → h.val < 2 * n →
    View.canon (outPieces v f p n hn) (ix3 (0 : Fin 1) h d) = p h (ix3 (0 : Fin 1) (0 : Fin 1) d)
  | 0, _, h, _, hh => by omega
  | n + 1, hn, h, d, hh => by
    by_cases hy : h.val < 2 * n
    · have hnot : ∀ w, (ix3 (0 : Fin 1) h d : S1x32x256.Idx) ∉ (⟨pairRect ⟨n, hn⟩, w⟩ : View.Piece (Elt F) S1x32x256 .bf16).1.set := by
        intro w hm
        have h1 := ((Rect.mem_set_unit (inb := pairRect_inb _)).mp hm 1).1
        have e : 2 * n ≤ h.val := h1
        omega
      rw [outPieces, View.canon_cons_of_not_mem _ _ (hnot _), View.canon_cons_of_not_mem _ _ (hnot _)]
      exact canon_outPieces n _ h d hy
    · have hq : h.val - 2 * n < 2 := by omega
      have e : (ix3 (0 : Fin 1) h d : S1x32x256.Idx)
          = (pairRect ⟨n, hn⟩).emb (ix3 (0 : Fin 1) (⟨h.val - 2 * n, hq⟩ : Fin 2) d : S1x2x256.Idx) := by
        funext a
        match a with
        | ⟨0, _⟩ => rfl
        | ⟨1, _⟩ => exact Fin.ext (by show h.val = 2 * n + 1 * (h.val - 2 * n); omega)
        | ⟨2, _⟩ => exact Fin.ext (by show d.val = 0 + 1 * d.val; omega)
      rw [outPieces, e, View.canon_cons_emb, View.readCov_cons_toLoadRect]
      refine (updateSlice_row _ _ 1 _ _ d).trans ?_
      by_cases h1 : h.val = 2 * n + 1
      · rw [if_pos (Fin.ext (by show h.val - 2 * n = 1; omega))]
        exact congrArg (fun k => p k (ix3 (0 : Fin 1) (0 : Fin 1) d)) (Fin.ext h1.symm)
      · rw [if_neg (by intro e; have := congrArg Fin.val e; simp at this; omega)]
        refine (updateSlice_row _ _ 0 _ _ d).trans ?_
        rw [if_pos (Fin.ext (by show h.val - 2 * n = 0; omega))]
        exact congrArg (fun k => p k (ix3 (0 : Fin 1) (0 : Fin 1) d)) (Fin.ext (by show 2 * n = h.val; omega))

/-- What the 32 rows' stores leave, whatever the buffer held before. -/
theorem read_outPieces (g : v.ty.Contents (Elt F)) :
    v.read (Elt F) (v.writes (Elt F) g (outPieces v f p 16 (Nat.le_refl _)))
      = fun y : S1x32x256.Idx => p (y 1) (ix3 (0 : Fin 1) (0 : Fin 1) (y 2)) := by
  rw [View.read_writes_eq_canon _ _ _ fun y => outPieces_cover v f p 16 _ y (y 1).isLt]
  funext y
  obtain ⟨a, h, d, rfl⟩ : ∃ (a : Fin 1) (h : Fin 32) (d : Fin 256), y = ix3 a h d := ⟨y 0, y 1, y 2, eq_ix3 y⟩
  obtain rfl := Subsingleton.elim a 0
  exact canon_outPieces v f p 16 _ h d h.isLt

end

/-! ## The second result's stores -/

section
variable (p : Fin 32 → Vec F S1x1x128x256 .fp8e4m3)

/-- The stores of the first `n` heads, last first. -/
def codePieces : (n : ℕ) → n ≤ 32 → List (View.Piece (Elt F) S1x32x128x256 .fp8e4m3)
  | 0, _ => []
  | n + 1, hn => ⟨headRect ⟨n, hn⟩, p ⟨n, hn⟩⟩ :: codePieces n (by omega)

theorem codePieces_cover : (n : ℕ) → (hn : n ≤ 32) → (y : S1x32x128x256.Idx) → (y 1).val < n →
    ∃ pc ∈ codePieces p n hn, y ∈ pc.1.set
  | 0, _, y, h => by omega
  | n + 1, hn, y, h => by
    by_cases hy : (y 1).val < n
    · obtain ⟨pc, h1, h2⟩ := codePieces_cover n (by omega) y hy
      exact ⟨pc, List.mem_cons_of_mem _ h1, h2⟩
    · refine ⟨_, List.mem_cons_self, (Rect.mem_set_unit (inb := headRect_inb _)).mpr fun a => ?_⟩
      have h0 : (y 0).val < 1 := (y 0).isLt
      have h2 : (y 2).val < 128 := (y 2).isLt
      have h3 : (y 3).val < 256 := (y 3).isLt
      match a with
      | ⟨0, _⟩ => exact ⟨Nat.zero_le _, by simpa using h0⟩
      | ⟨1, _⟩ => exact ⟨by simpa using hy, by simpa [S1x1x128x256] using h⟩
      | ⟨2, _⟩ => exact ⟨Nat.zero_le _, by simpa [S1x1x128x256] using h2⟩
      | ⟨3, _⟩ => exact ⟨Nat.zero_le _, by simpa [S1x1x128x256] using h3⟩

theorem canon_codePieces : (n : ℕ) → (hn : n ≤ 32) → (h : Fin 32) → (r : Fin 128) → (d : Fin 256) → h.val < n →
    View.canon (codePieces p n hn) (ix4 (0 : Fin 1) h r d) = p h (ix4 (0 : Fin 1) (0 : Fin 1) r d)
  | 0, _, h, _, _, hh => by omega
  | n + 1, hn, h, r, d, hh => by
    by_cases hy : h.val < n
    · rw [codePieces, View.canon_cons_of_not_mem]
      · exact canon_codePieces n _ h r d hy
      · intro hm
        have h1 := ((Rect.mem_set_unit (inb := headRect_inb _)).mp hm 1).1
        have e : n ≤ h.val := h1
        omega
    · obtain rfl : h = ⟨n, hn⟩ := Fin.ext (by show h.val = n; omega)
      have e : (ix4 (0 : Fin 1) (⟨n, hn⟩ : Fin 32) r d : S1x32x128x256.Idx)
          = (headRect ⟨n, hn⟩).emb (ix4 (0 : Fin 1) (0 : Fin 1) r d : S1x1x128x256.Idx) := by
        funext a
        match a with
        | ⟨0, _⟩ => rfl
        | ⟨1, _⟩ => rfl
        | ⟨2, _⟩ => exact Fin.ext (by show r.val = 0 + 1 * r.val; omega)
        | ⟨3, _⟩ => exact Fin.ext (by show d.val = 0 + 1 * d.val; omega)
      rw [codePieces, e, View.canon_cons_emb]

/-- What the 32 heads' stores leave, whatever the buffer held before. -/
theorem read_codePieces {sg : RefSig} {κ : Kind} {sp : Space} (v : View sg κ sp S1x32x128x256 .fp8e4m3) (g : v.ty.Contents (Elt F)) :
    v.read (Elt F) (v.writes (Elt F) g (codePieces p 32 (Nat.le_refl _)))
      = fun y : S1x32x128x256.Idx => p (y 1) (ix4 (0 : Fin 1) (0 : Fin 1) (y 2) (y 3)) := by
  rw [View.read_writes_eq_canon _ _ _ fun y => codePieces_cover p 32 _ y (y 1).isLt]
  funext y
  obtain ⟨a, h, r, d, rfl⟩ : ∃ (a : Fin 1) (h : Fin 32) (r : Fin 128) (d : Fin 256), y = ix4 a h r d := ⟨y 0, y 1, y 2, y 3, eq_ix4 y⟩
  obtain rfl := Subsingleton.elim a 0
  exact canon_codePieces p 32 _ h r d h.isLt

end

/-! ## The blocks of the three results, from the blocks of the arguments -/

section
variable (Q K : Vec F S1x1x16x128 .bf16) (V : Vec F S1x1x32x256 .bf16) (G B : Vec F S1x1x32 .f32)
  (C : Vec F S1x32x128x256 .fp8e4m3) (S : Vec F S1x32x128 .f32)

/-- The first result's block. -/
def outBlock : Vec F S1x32x256 .bf16 := fun y =>
  headOut Q K G B S (y 1) (ld C (headRect (y 1))) (ld V (rowRect (y 1))) (ix3 (0 : Fin 1) (0 : Fin 1) (y 2))

/-- The second result's block. -/
def codeBlock : Vec F S1x32x128x256 .fp8e4m3 := fun y =>
  headCodes Q K G B S (y 1) (ld C (headRect (y 1))) (ld V (rowRect (y 1))) (ix4 (0 : Fin 1) (0 : Fin 1) (y 2) (y 3))

/-- The third result's block. -/
def scaleBlock : Vec F S1x32x128 .f32 :=
  blockScales fun h => headAmax Q K G B S h (ld C (headRect h)) (ld V (rowRect h))

end

end Cert.Kernel.Gen

end
-- ==== Proof.Kernel.Contents.lean ====
/-
  What a run of the body leaves in its three result buffers: the blocks of `Block.lean`, as functions of what the argument
  buffers held (`run_out`, `run_codes`, `run_scales`). The run's stores are, one by one, the lists of `Block.lean`.
-/
module

public import proofs.«01_k».proof.Proof.Kernel.Run
public import proofs.«01_k».proof.Proof.Kernel.Block
public import Idealize.ShloMosaic.Lib.WholeRead

@[expose] public section

set_option maxRecDepth 16384

noncomputable section

namespace Cert.Kernel.Gen

open Idealize.ShloMosaic Idealize.ShloMosaic.TcCoe Idealize.ShloMosaic.Tactic
open Idealize.SL Idealize.SL.Sem
open Idealize.ShloMosaic.View (ld)

variable {F : FTy → Type} [FloatOps F]

variable (c : Dev nD) (i : grid0.Coords) (arg2 : Memref sig .tc .vmem S1x1x16x128 .bf16) (harg2 : arg2.IsWhole) (arg3 : Memref sig .tc .vmem S1x1x16x128 .bf16) (harg3 : arg3.IsWhole) (arg4 : Memref sig .tc .vmem S1x1x32x256 .bf16) (harg4 : arg4.IsWhole) (arg5 : Memref sig .tc .vmem S1x1x32 .f32) (harg5 : arg5.IsWhole) (arg6 : Memref sig .tc .vmem S1x1x32 .f32) (harg6 : arg6.IsWhole) (arg7 : Memref sig .tc .vmem S1x32x128x256 .fp8e4m3) (harg7 : arg7.IsWhole) (arg8 : Memref sig .tc .vmem S1x32x128 .f32) (harg8 : arg8.IsWhole) (arg9 : Memref sig .tc .vmem S1x32x256 .bf16) (harg9 : arg9.IsWhole) (arg10 : Memref sig .tc .vmem S1x32x128x256 .fp8e4m3) (harg10 : arg10.IsWhole) (arg11 : Memref sig .tc .vmem S1x32x128 .f32) (harg11 : arg11.IsWhole)
  (x0 : Vec F S1x1x16x128 .bf16) (x1 : Vec F S1x1x16x128 .bf16) (x2 : Vec F S1x1x32x256 .bf16) (x3 : Vec F S1x1x32 .f32) (x4 : Vec F S1x1x32 .f32) (x5 : Vec F S1x32x128x256 .fp8e4m3) (x6 : Vec F S1x32x128 .f32) (xt0 : TbBuf0 (F := F) c tbM0_0)

/-- All of a buffer of queries, of decays, of scales. -/
abbrev allQ : Rect S1x1x16x128 := Rect.unit (s := S1x1x16x128) ![0, 0, 0, 0] S1x1x16x128.size inb_S1x1x16x128_S1x1x16x128_0_0_0_0
abbrev allG : Rect S1x1x32 := Rect.unit (s := S1x1x32) ![0, 0, 0] S1x1x32.size inb_S1x1x32_S1x1x32_0_0_0
abbrev allS : Rect S1x32x128 := Rect.unit (s := S1x32x128) ![0, 0, 0] S1x32x128.size inb_S1x32x128_S1x32x128_0_0_0

/-- What a load of a whole buffer reads. -/
theorem readAt_unread_eq_ld {κ : Kind} {sp : Space} {s : Shape} {e : EltTy} {m : Memref sig κ sp s e} (h : m.IsWhole) (X : s.Idx → Elt F e) (r : Rect s) :
    View.readAt (Elt F) m.view r.toLoadRect (h.unread X) = ld X r :=
  funext fun x => h.readAt_unread X r.toLoadRect x

/-- The run's stores of the first result. -/
theorem run_outPieces (f : Buf (Elt F) (arg9.view.loc (c : Thread nD τ))) :
    (kernelRun0_A c i arg2 harg2 arg3 harg3 arg4 harg4 arg5 harg5 arg6 harg6 arg7 harg7 arg8 harg8 arg9 harg9 arg10 harg10 arg11 harg11 x0 x1 x2 x3 x4 x5 x6 xt0).1 f
      = outPieces arg9.view f (fun h => headOut (View.readAt (Elt F) arg2.view allQ.toLoadRect (harg2.unread x0)) (View.readAt (Elt F) arg3.view allQ.toLoadRect (harg3.unread x1))
          (View.readAt (Elt F) arg5.view allG.toLoadRect (harg5.unread x3)) (View.readAt (Elt F) arg6.view allG.toLoadRect (harg6.unread x4)) (View.readAt (Elt F) arg8.view allS.toLoadRect (harg8.unread x6)) h
          (View.readAt (Elt F) arg7.view (headRect h).toLoadRect (harg7.unread x5)) (View.readAt (Elt F) arg4.view (rowRect h).toLoadRect (harg4.unread x2))) 16 (Nat.le_refl _) := by
  sl_kernel_rfl

/-- The run's stores of the second result. -/
theorem run_codePieces :
    (kernelRun0_A c i arg2 harg2 arg3 harg3 arg4 harg4 arg5 harg5 arg6 harg6 arg7 harg7 arg8 harg8 arg9 harg9 arg10 harg10 arg11 harg11 x0 x1 x2 x3 x4 x5 x6 xt0).2.1
      = codePieces (fun h => headCodes (View.readAt (Elt F) arg2.view allQ.toLoadRect (harg2.unread x0)) (View.readAt (Elt F) arg3.view allQ.toLoadRect (harg3.unread x1))
          (View.readAt (Elt F) arg5.view allG.toLoadRect (harg5.unread x3)) (View.readAt (Elt F) arg6.view allG.toLoadRect (harg6.unread x4)) (View.readAt (Elt F) arg8.view allS.toLoadRect (harg8.unread x6)) h
          (View.readAt (Elt F) arg7.view (headRect h).toLoadRect (harg7.unread x5)) (View.readAt (Elt F) arg4.view (rowRect h).toLoadRect (harg4.unread x2))) 32 (Nat.le_refl _) := by
  sl_kernel_rfl

/-- The run's store of the third result. -/
theorem run_scalePieces :
    (kernelRun0_A c i arg2 harg2 arg3 harg3 arg4 harg4 arg5 harg5 arg6 harg6 arg7 harg7 arg8 harg8 arg9 harg9 arg10 harg10 arg11 harg11 x0 x1 x2 x3 x4 x5 x6 xt0).2.2.1
      = [⟨allS, blockScales (fun h => headAmax (View.readAt (Elt F) arg2.view allQ.toLoadRect (harg2.unread x0)) (View.readAt (Elt F) arg3.view allQ.toLoadRect (harg3.unread x1))
          (View.readAt (Elt F) arg5.view allG.toLoadRect (harg5.unread x3)) (View.readAt (Elt F) arg6.view allG.toLoadRect (harg6.unread x4)) (View.readAt (Elt F) arg8.view allS.toLoadRect (harg8.unread x6)) h
          (View.readAt (Elt F) arg7.view (headRect h).toLoadRect (harg7.unread x5)) (View.readAt (Elt F) arg4.view (rowRect h).toLoadRect (harg4.unread x2)))⟩] := by
  sl_kernel_rfl

/-- A load of all of a buffer reads all of it. -/
theorem ld_allQ (X : Vec F S1x1x16x128 .bf16) : ld X allQ = X := View.ld_unit_zero (by funext a; revert a; decide) _ X
theorem ld_allG (X : Vec F S1x1x32 .f32) : ld X allG = X := View.ld_unit_zero (by funext a; revert a; decide) _ X
theorem ld_allS (X : Vec F S1x32x128 .f32) : ld X allS = X := View.ld_unit_zero (by funext a; revert a; decide) _ X

/-- What the run leaves in the first result's buffer, whatever that held before. -/
theorem run_out (f : Buf (Elt F) (arg9.view.loc (c : Thread nD τ))) :
    arg9.view.read (Elt F) (arg9.view.writes (Elt F) f ((kernelRun0_A c i arg2 harg2 arg3 harg3 arg4 harg4 arg5 harg5 arg6 harg6 arg7 harg7 arg8 harg8 arg9 harg9 arg10 harg10 arg11 harg11 x0 x1 x2 x3 x4 x5 x6 xt0).1 f)) = outBlock x0 x1 x2 x3 x4 x5 x6 := by
  rw [run_outPieces, read_outPieces]
  simp only [readAt_unread_eq_ld, ld_allQ, ld_allG, ld_allS]
  rfl

/-- What the run leaves in the second result's buffer. -/
theorem run_codes (f : Buf (Elt F) (arg10.view.loc (c : Thread nD τ))) :
    arg10.view.read (Elt F) (arg10.view.writes (Elt F) f (kernelRun0_A c i arg2 harg2 arg3 harg3 arg4 harg4 arg5 harg5 arg6 harg6 arg7 harg7 arg8 harg8 arg9 harg9 arg10 harg10 arg11 harg11 x0 x1 x2 x3 x4 x5 x6 xt0).2.1) = codeBlock x0 x1 x2 x3 x4 x5 x6 := by
  rw [run_codePieces, read_codePieces]
  simp only [readAt_unread_eq_ld, ld_allQ, ld_allG, ld_allS]
  rfl

/-- What the run leaves in the third result's buffer. -/
theorem run_scales (f : Buf (Elt F) (arg11.view.loc (c : Thread nD τ))) :
    arg11.view.read (Elt F) (arg11.view.writes (Elt F) f (kernelRun0_A c i arg2 harg2 arg3 harg3 arg4 harg4 arg5 harg5 arg6 harg6 arg7 harg7 arg8 harg8 arg9 harg9 arg10 harg10 arg11 harg11 x0 x1 x2 x3 x4 x5 x6 xt0).2.2.1) = scaleBlock x0 x1 x2 x3 x4 x5 x6 := by
  rw [run_scalePieces, View.read_writes_eq_canon]
  · simp only [readAt_unread_eq_ld, ld_allQ, ld_allG, ld_allS]
    exact View.canon_unit_zero (by funext a; revert a; decide) _ _
  · intro y
    refine ⟨_, List.mem_cons_self, (Rect.mem_set_unit (inb := inb_S1x32x128_S1x32x128_0_0_0)).mpr fun a => ?_⟩
    match a with
    | ⟨0, _⟩ => exact ⟨Nat.zero_le _, by simpa using (y 0).isLt⟩
    | ⟨1, _⟩ => exact ⟨Nat.zero_le _, by simpa using (y 1).isLt⟩
    | ⟨2, _⟩ => exact ⟨Nat.zero_le _, by simpa using (y 2).isLt⟩

end Cert.Kernel.Gen

end
-- ==== Proof.Kernel.Frame.lean ====
/-
  The frame of the kernel: from a launch memory whose table of slots is admissible (`Ok`), every weakly fair execution
  terminates, the arguments end unchanged and every counter ends at zero (`frame`); and what every array of the pipeline
  holds then (`run_main`, over `dats`: after the body at a point the result windows hold `outBlock`, `codeBlock` and
  `scaleBlock` of the point's blocks).
-/
module

public import proofs.«01_k».proof.Proof.Kernel.Contents
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the results' at the blocks of `Block.lean`; the invariant of the rest of
    the core's state and of the table's half; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outBlock (iblk m hO c 0 t) (iblk m hO c 1 t) (iblk m hO c 2 t) (iblk m hO c 3 t) (iblk m hO c 4 t) (iblk m hO c 5 t) (iblk m hO c 6 t)
    | ⟨8, _⟩ => codeBlock (iblk m hO c 0 t) (iblk m hO c 1 t) (iblk m hO c 2 t) (iblk m hO c 3 t) (iblk m hO c 4 t) (iblk m hO c 5 t) (iblk m hO c 6 t)
    | ⟨9, _⟩ => scaleBlock (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outBlock (iblk m hO c 0 t) (iblk m hO c 1 t) (iblk m hO c 2 t) (iblk m hO c 3 t) (iblk m hO c 4 t) (iblk m hO c 5 t) (iblk m hO c 6 t) := by dsimp only [dats]; try rfl
theorem after0_8 (hO : Ok m) (c : Dev nD) (t : Fin (cfgM m hO).N) : (dats m hO 0 c).after 8 t = codeBlock (iblk m hO c 0 t) (iblk m hO c 1 t) (iblk m hO c 2 t) (iblk m hO c 3 t) (iblk m hO c 4 t) (iblk m hO c 5 t) (iblk m hO c 6 t) := by dsimp only [dats]; try rfl
theorem after0_9 (hO : Ok m) (c : Dev nD) (t : Fin (cfgM m hO).N) : (dats m hO 0 c).after 9 t = scaleBlock (iblk m hO c 0 t) (iblk m hO c 1 t) (iblk m hO c 2 t) (iblk m hO c 3 t) (iblk m hO c 4 t) (iblk m hO c 5 t) (iblk m hO c 6 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HT0]; · iexact HT0
  iintro ⟨H0, H1, H2, H3, H4, H5, H6, ⟨%e7, H7⟩, ⟨%e8, H8⟩, ⟨%e9, H9⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact run_out ..
  isplitl [H8]
  · unfold owns; iexists _; isplitr
    swap; · iexact H8
    ipureintro; exact run_codes ..
  unfold owns; iexists _; isplitr
  swap; · iexact H9
  ipureintro; exact run_scales ..

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame, for every admissible contents of the table of slots: the argument arrays end unchanged and every
    semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Gen

end
-- ==== Proof.Kernel.Slots.lean ====
/-
  The table of slots. At grid point `i` the index maps of the two windows over the state's pool read word `i` of the table
  (`slot_map5`, `slot_map6`); where every word is a row of the pool, the pipeline runs (`ok_of_slots`).
-/
module

public import proofs.«01_k».proof.Proof.Kernel.Kit
public import Idealize.ShloMosaic.Lib.Affine
public import Idealize.ShloMosaic.Lib.ValueIdxCore

@[expose] public section

noncomputable section

namespace Cert.Kernel.Gen

open Idealize.ShloMosaic Idealize.ShloMosaic.TcCoe Idealize.SL.Sem
open Idealize.ShloMosaic.ValueIdx

variable {F : FTy → Type} [FloatOps F]

/-- The row of the pool that grid point `i` reads. -/
def slotAt (pf : pre0.Contents (Elt F)) (i : grid0.Coords) : BitVec 32 := pf 0 (ix1 (i 0) : S48.Idx)

theorem slot_word (pf : pre0.Contents (Elt F)) (i : grid0.Coords) :
    pf.at 0 (Rect.unit (s := S48) ![(Scalar.indexCast (BitVec.ofNat 32 (i 0).val)).toNat] S1.size (k0_off1_inb i)) numel1_S1 = slotAt pf i := by
  unfold slotAt
  refine congrArg (pf 0) ?_
  show (Rect.unit (s := S48) ![(Scalar.indexCast (BitVec.ofNat 32 (i 0).val)).toNat] S1.size (k0_off1_inb i)).emb (Shape.Idx.first (numel1_S1.symm ▸ Nat.one_pos)) = ix1 (i 0)
  funext (a : Fin 1)
  obtain rfl : a = 0 := Subsingleton.elim _ _
  have h : (i 0).val < 48 := (i 0).isLt
  apply Fin.ext
  show (BitVec.ofNat 32 (i 0).val).toNat + 1 * 0 = (i 0).val
  simp [BitVec.toNat_ofNat]
  omega

theorem slot_map5 (pf : pre0.Contents (Elt F)) (i : grid0.Coords) :
    cc0_transform_5 k0_off1_inb numel1_S1 pf i = ![(slotAt pf i).toNat, 0, 0, 0] := by
  rw [← slot_word]; rfl

theorem slot_map6 (pf : pre0.Contents (Elt F)) (i : grid0.Coords) :
    cc0_transform_6 k0_off1_inb numel1_S1 pf i = ![(slotAt pf i).toNat, 0, 0] := by
  rw [← slot_word]; rfl

/-- The pipeline runs at every table whose words are rows of the pool. -/
theorem ok_of_slots (pf : pre0.Contents (Elt F)) (h : ∀ i : grid0.Coords, (slotAt pf i).toNat < 60) : ok0 pf := by
  refine ⟨fun i => ⟨fun a => ?_, .inr (Affine.block_words_dvd (of_decide_eq_true rfl) (by decide))⟩, fun i => ⟨fun a => ?_, .inl rfl⟩⟩
  · rw [slot_map5]
    have := h i
    match a with
    | ⟨0, _⟩ => show ((slotAt pf i).toNat + 1) * 1 ≤ 60; omega
    | ⟨1, _⟩ => show (0 + 1) * 32 ≤ 32; omega
    | ⟨2, _⟩ => show (0 + 1) * 128 ≤ 128; omega
    | ⟨3, _⟩ => show (0 + 1) * 256 ≤ 256; omega
  · rw [slot_map6]
    have := h i
    match a with
    | ⟨0, _⟩ => show ((slotAt pf i).toNat + 1) * 1 ≤ 60; omega
    | ⟨1, _⟩ => show (0 + 1) * 32 ≤ 32; omega
    | ⟨2, _⟩ => show (0 + 1) * 128 ≤ 128; omega

end Cert.Kernel.Gen

end
-- ==== Proof.KernelIdeal.Points.lean ====
/-
  The kernel's schedule on its grid: at which points the pipeline fetches a window and at which it writes one back, the
  staging buffer a window is on at a point, and the body as the pipeline calls it there. Everything is stated at any
  admissible contents of the table of slots, which the index maps of the two windows over the state's pool read.
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
-- window 5: no schedule fact — its index map reads a prefetched table, so where it is fetched or written back depends on the tables' contents
-- window 6: no schedule fact — its index map reads a prefetched table, so where it is fetched or written back depends on the tables' contents
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gdr_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.KernelIdeal.Gen

end
-- ==== Proof.KernelIdeal.Kit.lean ====
/-
  What the frame's modules share: the arrays as the grid finds them (`V`), the table of slots read off the launch memory
  (`tbl`) and the condition on it under which the pipeline runs (`Ok`), each window's block at a point (`iblk`), that an
  input's staging buffer holds its block (`before0_0_of` and the like), the frame from a run of the pipeline (`frame_of`), and the staging
  buffers' names.
-/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`). The frame holds
    under it; `Slots.lean` proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (by decide : main_arg7 ∈ Pipeline.restRefs sig spec0)).trans (V_main_arg7 m c)⟩) h

/-! ## The staging buffers at a point -/

/-- Each window's current staging memref at point `t`, spelled as the pipeline passes it (`bodyAt0`), and its wholeness. -/
abbrev ms0_0 (hO : Ok m) (t : Fin (cfgM m hO).N) : Memref sig .tc .vmem S1x1x16x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x16x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x32x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x32 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x32 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x32x128x256 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x32x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x32x256 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x32x128x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x32x128 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.KernelIdeal.Gen

end
-- ==== Proof.KernelIdeal.Run.lean ====
/-
  One run of the kernel's body, at any point of the grid (`kernelRun0_A`): on staging buffers holding any blocks it ends
  with the argument buffers as they were and each result's buffer with a list of stores made to it. The lists are
  found by the run; `Contents.lean` says what they are. The first result's list depends on what its buffer held
  before, because a row of it is stored by loading the two rows that share its words.
-/
module

public import proofs.«01_k».proof.Proof.KernelIdeal.Kit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1856000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x16x128 .bf16) (harg2 : arg2.IsWhole) (arg3 : Memref sig .tc .vmem S1x1x16x128 .bf16) (harg3 : arg3.IsWhole) (arg4 : Memref sig .tc .vmem S1x1x32x256 .bf16) (harg4 : arg4.IsWhole) (arg5 : Memref sig .tc .vmem S1x1x32 .f32) (harg5 : arg5.IsWhole) (arg6 : Memref sig .tc .vmem S1x1x32 .f32) (harg6 : arg6.IsWhole) (arg7 : Memref sig .tc .vmem S1x32x128x256 .fp8e4m3) (harg7 : arg7.IsWhole) (arg8 : Memref sig .tc .vmem S1x32x128 .f32) (harg8 : arg8.IsWhole) (arg9 : Memref sig .tc .vmem S1x32x256 .bf16) (harg9 : arg9.IsWhole) (arg10 : Memref sig .tc .vmem S1x32x128x256 .fp8e4m3) (harg10 : arg10.IsWhole) (arg11 : Memref sig .tc .vmem S1x32x128 .f32) (harg11 : arg11.IsWhole)
    (x0 : Vec F S1x1x16x128 .bf16) (x1 : Vec F S1x1x16x128 .bf16) (x2 : Vec F S1x1x32x256 .bf16) (x3 : Vec F S1x1x32 .f32) (x4 : Vec F S1x1x32 .f32) (x5 : Vec F S1x32x128x256 .fp8e4m3) (x6 : Vec F S1x32x128 .f32) (xt0 : TbBuf0 (F := F) c tbM0_0) :
    Σ' (L7 : Buf (Elt F) (arg9.view.loc (c : Thread nD τ)) → List (View.Piece (Elt F) S1x32x256 .bf16)), Σ' (L8 : List (View.Piece (Elt F) S1x32x128x256 .fp8e4m3)), { L9 : List (View.Piece (Elt F) S1x32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f (L7 f)) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ tbPt0 c tbM0_0 xt0) -∗ K ⟨⟩))
          ⊢ wp frame (wpE (defs₀ (F := F)) Variants.none c none) E (cc0_gdr_decode i tbM0_0 htbM0_0 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gdr_decode_eq_skeleton]; unfold cc0_gdr_decode_skel
    simp only [k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexact HT0

end Cert.KernelIdeal.Gen

end
-- ==== Proof.KernelIdeal.Head.lean ====
/-
  What the kernel's body computes for one of the 32 value heads, as functions of the head's number `h`: the printed body
  repeats the same operations for every head, at other rows and columns, and cuts them into payloads at other places.
  `headOut` is the row of the first result, `headCodes` the block of the second, `headAmax` the largest magnitude of each
  row of the new state, from which `blockScales` makes the third. `QK`, `K` are the group's queries and keys, `G` the logarithm of the
  decay, `B` the step sizes, `S` the state's scales, `C` the head's codes and `v` its row of values.
-/
module

public import proofs.«01_k».proof.Proof.Gen.KernelIdeal.Skeleton

@[expose] public section

noncomputable section

namespace Cert.KernelIdeal.Gen

open Idealize.ShloMosaic Idealize.SL.Sem

variable {F : FTy → Type} [FloatOps F]

theorem row32_slices (h : Fin 32) : S32x128.Slices ![h.val, 0] S1x128 := by revert h; decide
theorem row16_slices (h : Fin 32) : S16x128.Slices ![h.val / 2, 0] S1x128 := by revert h; decide
theorem col32_slices (h : Fin 32) : S128x32.Slices ![0, h.val] S128x1 := by revert h; decide
theorem col16_slices (h : Fin 32) : S128x16.Slices ![0, h.val / 2] S128x1 := by revert h; decide
theorem one32_slices (h : Fin 32) : S1x32.Slices ![0, h.val] S1x1 := by revert h; decide
theorem one16_slices (h : Fin 32) : S16x1.Slices ![h.val / 2, 0] S1x1 := by revert h; decide

/-- The two products with the state, keys in row 0 and queries in row 1, before the decay. -/
def headDot (Q K : Vec F S1x1x16x128 .bf16) (S : Vec F S1x32x128 .f32) (h : Fin 32) (C : Vec F S1x1x128x256 .fp8e4m3) :
    FVec F S16x256 .f32 :=
  matmul dot_S16x128_S128x256_S16x256_1_0_0_1_n_n none
    (truncf .bf16 (concatenate S16x128 0
      [⟨S1x128, mulf (extractStridedSlice S1x128 ![h.val / 2, 0] (k0_pay3 K) (row16_slices h)) (extractStridedSlice S1x128 ![h.val, 0] (k0_pay7 S) (row32_slices h))⟩,
       ⟨S1x128, mulf (extractStridedSlice S1x128 ![h.val / 2, 0] (k0_pay2 Q) (row16_slices h)) (extractStridedSlice S1x128 ![h.val, 0] (k0_pay7 S) (row32_slices h))⟩,
       ⟨S14x128, broadcast S14x128 (Scalar.ofBits .f32 0x00000000#32 : F .f32)⟩]
      concatenates_S1x128_S1x128_S14x128_S16x128_d0) bitsLt_bf16_f32)
    (extf .bf16 (shapeCast S128x256 C shapeCasts_S1x1x128x256_S128x256) bitsLt_fp8e4m3_bf16)
    (constant S16x256 .f32 0x00000000#32)

/-- The head's decay. -/
def headDecay (G : Vec F S1x1x32 .f32) (h : Fin 32) : FVec F S1x1 .f32 :=
  extractStridedSlice S1x1 ![0, h.val] (k0_pay5 G) (one32_slices h)

/-- The correction of the state: the step size times the value less what the decayed state answers to the key. -/
def headDelta (Q K : Vec F S1x1x16x128 .bf16) (G B : Vec F S1x1x32 .f32) (S : Vec F S1x32x128 .f32) (h : Fin 32)
    (C : Vec F S1x1x128x256 .fp8e4m3) (v : Vec F S1x1x1x256 .bf16) : FVec F S1x256 .f32 :=
  mulf (broadcastTo S1x256 (extractStridedSlice S1x1 ![0, h.val] (k0_pay6 B) (one32_slices h)) broadcasts_S1x1_S1x256)
    (subf (extf .f32 (shapeCast S1x256 v shapeCasts_S1x1x1x256_S1x256) bitsLt_bf16_f32)
      (mulf (broadcastTo S1x256 (headDecay G h) broadcasts_S1x1_S1x256)
        (extractStridedSlice S1x256 ![0, 0] (headDot Q K S h C) slices_S16x256_o0_0_S1x256)))

/-- The head's row of the first result. -/
def headOut (Q K : Vec F S1x1x16x128 .bf16) (G B : Vec F S1x1x32 .f32) (S : Vec F S1x32x128 .f32) (h : Fin 32)
    (C : Vec F S1x1x128x256 .fp8e4m3) (v : Vec F S1x1x1x256 .bf16) : FVec F S1x1x256 .bf16 :=
  shapeCast S1x1x256 (truncf .bf16 (addf
    (mulf (broadcastTo S1x256 (headDecay G h) broadcasts_S1x1_S1x256)
      (extractStridedSlice S1x256 ![1, 0] (headDot Q K S h C) slices_S16x256_o1_0_S1x256))
    (mulf (broadcastTo S1x256 (extractStridedSlice S1x1 ![h.val / 2, 0] (k0_pay4 Q K) (one16_slices h)) broadcasts_S1x1_S1x256)
      (headDelta Q K G B S h C v))) bitsLt_bf16_f32) shapeCasts_S1x256_S1x1x256

/-- The head's new state. -/
def headState (Q K : Vec F S1x1x16x128 .bf16) (G B : Vec F S1x1x32 .f32) (S : Vec F S1x32x128 .f32) (h : Fin 32)
    (C : Vec F S1x1x128x256 .fp8e4m3) (v : Vec F S1x1x1x256 .bf16) : FVec F S128x256 .f32 :=
  addf
    (mulf (broadcastTo S128x256 (mulf (extractStridedSlice S128x1 ![0, h.val] (k0_pay8 S) (col32_slices h))
        (broadcastTo S128x1 (headDecay G h) broadcasts_S1x1_S128x1)) broadcasts_S128x1_S128x256)
      (extf .f32 (shapeCast S128x256 C shapeCasts_S1x1x128x256_S128x256) bitsLt_fp8e4m3_f32))
    (mulf (broadcastTo S128x256 (extractStridedSlice S128x1 ![0, h.val / 2] (k0_pay9 (k0_pay3 K)) (col16_slices h)) broadcasts_S128x1_S128x256)
      (broadcastTo S128x256 (headDelta Q K G B S h C v) broadcasts_S1x256_S128x256))

/-- The largest magnitude in each row of a state. -/
def stateAmax (s : FVec F S128x256 .f32) : FVec F S128x1 .f32 :=
  shapeCast S128x1 (multiReduction .maximumf [1] S128 (absf s) 0xFF800000#32 reduces_S128x256_S128 (.inl rfl) rfl) shapeCasts_S128_S128x1

/-- The codes of a state: each row times the inverse of its scale, clipped and rounded. -/
def stateCodes (s : FVec F S128x256 .f32) : FVec F S1x1x128x256 .fp8e4m3 :=
  k0_pay19 (truncf .fp8e4m3
    (minimumf (broadcast S128x256 (Scalar.ofBits .f32 0x43E00000#32 : F .f32))
      (maximumf (broadcast S128x256 (Scalar.ofBits .f32 0xC3E00000#32 : F .f32))
        (mulf s (broadcastTo S128x256 (bitcastToFloat .f32 (shli
          (select (cmpf .oeq (stateAmax s) (broadcast S128x1 (Scalar.ofBits .f32 0x00000000#32 : F .f32)))
            (broadcast S128x1 127#32)
            (subi (broadcast S128x1 253#32)
              (multiReductionI .add [0] S128x1
                (select
                  (cmpf .oge
                    (broadcastTo S252x128x1 (shapeCast S1x128x1 (mulf (stateAmax s) (broadcast S128x1 (Scalar.ofBits .f32 0x3B124925#32 : F .f32))) shapeCasts_S128x1_S1x128x1) broadcasts_S1x128x1_S252x128x1)
                    (broadcastTo S252x128x1 (bitcastToFloat .f32 (shli (addi (iota .tc S252x1x1 32 [0] iota_S252x1x1_d0_w32) (broadcast S252x1x1 1#32)) (broadcast S252x1x1 23#32)) : FVec F S252x1x1 .f32) broadcasts_S252x1x1_S252x128x1))
                  (broadcast S252x128x1 1#32) (broadcast S252x128x1 0#32))
                0#32 reduces_S252x128x1_S128x1 rfl)))
          (broadcast S128x1 23#32))) broadcasts_S128x1_S128x256)))) bitsLt_fp8e4m3_f32)

/-- The head's block of the second result. -/
def headCodes (Q K : Vec F S1x1x16x128 .bf16) (G B : Vec F S1x1x32 .f32) (S : Vec F S1x32x128 .f32) (h : Fin 32)
    (C : Vec F S1x1x128x256 .fp8e4m3) (v : Vec F S1x1x1x256 .bf16) : FVec F S1x1x128x256 .fp8e4m3 :=
  stateCodes (headState Q K G B S h C v)

/-- The largest magnitudes of the head's new state, row by row. -/
def headAmax (Q K : Vec F S1x1x16x128 .bf16) (G B : Vec F S1x1x32 .f32) (S : Vec F S1x32x128 .f32) (h : Fin 32)
    (C : Vec F S1x1x128x256 .fp8e4m3) (v : Vec F S1x1x1x256 .bf16) : FVec F S128x1 .f32 :=
  stateAmax (headState Q K G B S h C v)

/-- The block of the third result, from the largest magnitudes of all heads. -/
def blockScales (A : Fin 32 → FVec F S128x1 .f32) : FVec F S1x32x128 .f32 :=
  k0_pay1
    (k0_pay368 (A 0) (A 1) (A 2) (A 3) (A 4) (A 5) (A 6) (A 7) (A 8) (A 9) (A 10) (A 11) (A 12) (A 13) (A 14) (A 15)
      (A 16) (A 17) (A 18) (A 19) (A 20) (A 21) (A 22) (A 23) (A 24) (A 25) (A 26) (A 27) (A 28) (A 29) (A 30) (A 31))
    (k0_pay369 (A 0) (A 1) (A 2) (A 3) (A 4) (A 5) (A 6) (A 7) (A 8) (A 9) (A 10) (A 11) (A 12) (A 13) (A 14) (A 15)
      (A 16) (A 17) (A 18) (A 19) (A 20) (A 21) (A 22) (A 23) (A 24) (A 25) (A 26) (A 27) (A 28) (A 29) (A 30) (A 31))
    127#32

end Cert.KernelIdeal.Gen

end
-- ==== Proof.KernelIdeal.Block.lean ====
/-
  The blocks a grid point's body leaves in its three result buffers, and the lists of stores that leave them. A head's
  row of the first result is half of a two-row word, so a store loads the two rows and puts its own among them
  (`outPieces`: two stores per pair of heads); the second result is stored head by head (`codePieces`), the third at once.
  `read_outPieces` and `read_codePieces` say that the stores leave `outBlock` and `codeBlock`, whatever was there before.
-/
module

public import proofs.«01_k».proof.Proof.KernelIdeal.Head
public import Idealize.ShloMosaic.Lib.Pipeline.FrameBody
public import Idealize.ShloMosaic.Lib.ValueIdxCore

@[expose] public section

noncomputable section

namespace Cert.KernelIdeal.Gen

open Idealize.ShloMosaic Idealize.SL.Sem
open Idealize.ShloMosaic.ValueIdx
open Idealize.ShloMosaic.View (ld)

variable {F : FTy → Type} [FloatOps F]

theorem rowRect_inb (h : Fin 32) : ∀ a, (![0, 0, h.val, 0] : Fin 4 → Nat) a + S1x1x1x256.size a ≤ S1x1x32x256.size a := by
  revert h; decide
theorem headRect_inb (h : Fin 32) : ∀ a, (![0, h.val, 0, 0] : Fin 4 → Nat) a + S1x1x128x256.size a ≤ S1x32x128x256.size a := by
  revert h; decide
theorem pairRect_inb (j : Fin 16) : ∀ a, (![0, 2 * j.val, 0] : Fin 3 → Nat) a + S1x2x256.size a ≤ S1x32x256.size a := by
  revert j; decide

/-- Head `h`'s row of the values. -/
abbrev rowRect (h : Fin 32) : Rect S1x1x32x256 := Rect.unit (s := S1x1x32x256) ![0, 0, h.val, 0] S1x1x1x256.size (rowRect_inb h)
/-- Head `h`'s block of the codes. -/
abbrev headRect (h : Fin 32) : Rect S1x32x128x256 := Rect.unit (s := S1x32x128x256) ![0, h.val, 0, 0] S1x1x128x256.size (headRect_inb h)
/-- The two rows of the first result that share their words. -/
abbrev pairRect (j : Fin 16) : Rect S1x32x256 := Rect.unit (s := S1x32x256) ![0, 2 * j.val, 0] S1x2x256.size (pairRect_inb j)

/-! ## The first result's stores -/

section
variable {sg : RefSig} {κ : Kind} {sp : Space} (v : View sg κ sp S1x32x256 .bf16) (f : v.ty.Contents (Elt F))
  (p : Fin 32 → Vec F S1x1x256 .bf16)

/-- The stores of the first `n` pairs of heads, last first. -/
def outPieces : (n : ℕ) → n ≤ 16 → List (View.Piece (Elt F) S1x32x256 .bf16)
  | 0, _ => []
  | n + 1, hn =>
    ⟨pairRect ⟨n, hn⟩, updateSlice (s := S1x2x256) (u := S1x1x256)
        (v.readCov (⟨pairRect ⟨n, hn⟩, updateSlice (s := S1x2x256) (u := S1x1x256)
          (v.readAt (Elt F) (pairRect ⟨n, hn⟩).toLoadRect f) (p ⟨2 * n, by omega⟩) ![0, 0, 0] slices_S1x2x256_S1x1x256_0_0_0⟩
          :: outPieces n (by omega)) (pairRect ⟨n, hn⟩).toLoadRect)
        (p ⟨2 * n + 1, by omega⟩) ![0, 1, 0] slices_S1x2x256_S1x1x256_0_1_0⟩
      :: ⟨pairRect ⟨n, hn⟩, updateSlice (s := S1x2x256) (u := S1x1x256)
          (v.readAt (Elt F) (pairRect ⟨n, hn⟩).toLoadRect f) (p ⟨2 * n, by omega⟩) ![0, 0, 0] slices_S1x2x256_S1x1x256_0_0_0⟩
      :: outPieces n (by omega)

theorem outPieces_cover : (n : ℕ) → (hn : n ≤ 16) → (y : S1x32x256.Idx) → (y 1).val < 2 * n →
    ∃ pc ∈ outPieces v f p n hn, y ∈ pc.1.set
  | 0, _, y, h => by omega
  | n + 1, hn, y, h => by
    by_cases hy : (y 1).val < 2 * n
    · obtain ⟨pc, h1, h2⟩ := outPieces_cover n (by omega) y hy
      exact ⟨pc, List.mem_cons_of_mem _ (List.mem_cons_of_mem _ h1), h2⟩
    · refine ⟨_, List.mem_cons_self, (Rect.mem_set_unit (inb := pairRect_inb _)).mpr fun a => ?_⟩
      have h0 : (y 0).val < 1 := (y 0).isLt
      have h2 : (y 2).val < 256 := (y 2).isLt
      match a with
      | ⟨0, _⟩ => exact ⟨Nat.zero_le _, by simpa using h0⟩
      | ⟨1, _⟩ => exact ⟨by simpa using hy, by simpa [S1x2x256] using (by omega : (y 1).val < 2 * n + 2)⟩
      | ⟨2, _⟩ => exact ⟨Nat.zero_le _, by simpa [S1x2x256] using h2⟩

theorem updateSlice_row {α : Type} (x : S1x2x256.Idx → α) (u : S1x1x256.Idx → α) (r : Fin 2) (hs : S1x2x256.Slices ![0, r.val, 0] S1x1x256)
    (q : Fin 2) (d : Fin 256) :
    updateSlice (s := S1x2x256) (u := S1x1x256) x u ![0, r.val, 0] hs (ix3 (0 : Fin 1) q d)
      = if q = r then u (ix3 (0 : Fin 1) (0 : Fin 1) d) else x (ix3 (0 : Fin 1) q d) := by
  unfold updateSlice
  by_cases hq : q = r
  · subst hq
    rw [if_pos rfl, dif_pos]
    · congr 1
      funext b
      match b with
      | ⟨0, _⟩ => rfl
      | ⟨1, _⟩ => exact Fin.ext (Nat.sub_self _)
      | ⟨2, _⟩ => rfl
    · intro a
      match a with
      | ⟨0, _⟩ => exact ⟨Nat.le_refl _, Nat.zero_lt_one⟩
      | ⟨1, _⟩ => exact ⟨Nat.le_refl _, Nat.lt_succ_self _⟩
      | ⟨2, _⟩ => exact ⟨Nat.zero_le _, by simpa [S1x1x256] using d.isLt⟩
  · rw [if_neg hq, dif_neg]
    intro h
    have h1 := h 1
    apply hq
    have e : r.val ≤ q.val ∧ q.val < r.val + 1 := h1
    exact Fin.ext (by omega)

theorem canon_outPieces : (n : ℕ) → (hn : n ≤ 16) → (h : Fin 32) → (d : Fin 256) → h.val < 2 * n →
    View.canon (outPieces v f p n hn) (ix3 (0 : Fin 1) h d) = p h (ix3 (0 : Fin 1) (0 : Fin 1) d)
  | 0, _, h, _, hh => by omega
  | n + 1, hn, h, d, hh => by
    by_cases hy : h.val < 2 * n
    · have hnot : ∀ w, (ix3 (0 : Fin 1) h d : S1x32x256.Idx) ∉ (⟨pairRect ⟨n, hn⟩, w⟩ : View.Piece (Elt F) S1x32x256 .bf16).1.set := by
        intro w hm
        have h1 := ((Rect.mem_set_unit (inb := pairRect_inb _)).mp hm 1).1
        have e : 2 * n ≤ h.val := h1
        omega
      rw [outPieces, View.canon_cons_of_not_mem _ _ (hnot _), View.canon_cons_of_not_mem _ _ (hnot _)]
      exact canon_outPieces n _ h d hy
    · have hq : h.val - 2 * n < 2 := by omega
      have e : (ix3 (0 : Fin 1) h d : S1x32x256.Idx)
          = (pairRect ⟨n, hn⟩).emb (ix3 (0 : Fin 1) (⟨h.val - 2 * n, hq⟩ : Fin 2) d : S1x2x256.Idx) := by
        funext a
        match a with
        | ⟨0, _⟩ => rfl
        | ⟨1, _⟩ => exact Fin.ext (by show h.val = 2 * n + 1 * (h.val - 2 * n); omega)
        | ⟨2, _⟩ => exact Fin.ext (by show d.val = 0 + 1 * d.val; omega)
      rw [outPieces, e, View.canon_cons_emb, View.readCov_cons_toLoadRect]
      refine (updateSlice_row _ _ 1 _ _ d).trans ?_
      by_cases h1 : h.val = 2 * n + 1
      · rw [if_pos (Fin.ext (by show h.val - 2 * n = 1; omega))]
        exact congrArg (fun k => p k (ix3 (0 : Fin 1) (0 : Fin 1) d)) (Fin.ext h1.symm)
      · rw [if_neg (by intro e; have := congrArg Fin.val e; simp at this; omega)]
        refine (updateSlice_row _ _ 0 _ _ d).trans ?_
        rw [if_pos (Fin.ext (by show h.val - 2 * n = 0; omega))]
        exact congrArg (fun k => p k (ix3 (0 : Fin 1) (0 : Fin 1) d)) (Fin.ext (by show 2 * n = h.val; omega))

/-- What the 32 rows' stores leave, whatever the buffer held before. -/
theorem read_outPieces (g : v.ty.Contents (Elt F)) :
    v.read (Elt F) (v.writes (Elt F) g (outPieces v f p 16 (Nat.le_refl _)))
      = fun y : S1x32x256.Idx => p (y 1) (ix3 (0 : Fin 1) (0 : Fin 1) (y 2)) := by
  rw [View.read_writes_eq_canon _ _ _ fun y => outPieces_cover v f p 16 _ y (y 1).isLt]
  funext y
  obtain ⟨a, h, d, rfl⟩ : ∃ (a : Fin 1) (h : Fin 32) (d : Fin 256), y = ix3 a h d := ⟨y 0, y 1, y 2, eq_ix3 y⟩
  obtain rfl := Subsingleton.elim a 0
  exact canon_outPieces v f p 16 _ h d h.isLt

end

/-! ## The second result's stores -/

section
variable (p : Fin 32 → Vec F S1x1x128x256 .fp8e4m3)

/-- The stores of the first `n` heads, last first. -/
def codePieces : (n : ℕ) → n ≤ 32 → List (View.Piece (Elt F) S1x32x128x256 .fp8e4m3)
  | 0, _ => []
  | n + 1, hn => ⟨headRect ⟨n, hn⟩, p ⟨n, hn⟩⟩ :: codePieces n (by omega)

theorem codePieces_cover : (n : ℕ) → (hn : n ≤ 32) → (y : S1x32x128x256.Idx) → (y 1).val < n →
    ∃ pc ∈ codePieces p n hn, y ∈ pc.1.set
  | 0, _, y, h => by omega
  | n + 1, hn, y, h => by
    by_cases hy : (y 1).val < n
    · obtain ⟨pc, h1, h2⟩ := codePieces_cover n (by omega) y hy
      exact ⟨pc, List.mem_cons_of_mem _ h1, h2⟩
    · refine ⟨_, List.mem_cons_self, (Rect.mem_set_unit (inb := headRect_inb _)).mpr fun a => ?_⟩
      have h0 : (y 0).val < 1 := (y 0).isLt
      have h2 : (y 2).val < 128 := (y 2).isLt
      have h3 : (y 3).val < 256 := (y 3).isLt
      match a with
      | ⟨0, _⟩ => exact ⟨Nat.zero_le _, by simpa using h0⟩
      | ⟨1, _⟩ => exact ⟨by simpa using hy, by simpa [S1x1x128x256] using h⟩
      | ⟨2, _⟩ => exact ⟨Nat.zero_le _, by simpa [S1x1x128x256] using h2⟩
      | ⟨3, _⟩ => exact ⟨Nat.zero_le _, by simpa [S1x1x128x256] using h3⟩

theorem canon_codePieces : (n : ℕ) → (hn : n ≤ 32) → (h : Fin 32) → (r : Fin 128) → (d : Fin 256) → h.val < n →
    View.canon (codePieces p n hn) (ix4 (0 : Fin 1) h r d) = p h (ix4 (0 : Fin 1) (0 : Fin 1) r d)
  | 0, _, h, _, _, hh => by omega
  | n + 1, hn, h, r, d, hh => by
    by_cases hy : h.val < n
    · rw [codePieces, View.canon_cons_of_not_mem]
      · exact canon_codePieces n _ h r d hy
      · intro hm
        have h1 := ((Rect.mem_set_unit (inb := headRect_inb _)).mp hm 1).1
        have e : n ≤ h.val := h1
        omega
    · obtain rfl : h = ⟨n, hn⟩ := Fin.ext (by show h.val = n; omega)
      have e : (ix4 (0 : Fin 1) (⟨n, hn⟩ : Fin 32) r d : S1x32x128x256.Idx)
          = (headRect ⟨n, hn⟩).emb (ix4 (0 : Fin 1) (0 : Fin 1) r d : S1x1x128x256.Idx) := by
        funext a
        match a with
        | ⟨0, _⟩ => rfl
        | ⟨1, _⟩ => rfl
        | ⟨2, _⟩ => exact Fin.ext (by show r.val = 0 + 1 * r.val; omega)
        | ⟨3, _⟩ => exact Fin.ext (by show d.val = 0 + 1 * d.val; omega)
      rw [codePieces, e, View.canon_cons_emb]

/-- What the 32 heads' stores leave, whatever the buffer held before. -/
theorem read_codePieces {sg : RefSig} {κ : Kind} {sp : Space} (v : View sg κ sp S1x32x128x256 .fp8e4m3) (g : v.ty.Contents (Elt F)) :
    v.read (Elt F) (v.writes (Elt F) g (codePieces p 32 (Nat.le_refl _)))
      = fun y : S1x32x128x256.Idx => p (y 1) (ix4 (0 : Fin 1) (0 : Fin 1) (y 2) (y 3)) := by
  rw [View.read_writes_eq_canon _ _ _ fun y => codePieces_cover p 32 _ y (y 1).isLt]
  funext y
  obtain ⟨a, h, r, d, rfl⟩ : ∃ (a : Fin 1) (h : Fin 32) (r : Fin 128) (d : Fin 256), y = ix4 a h r d := ⟨y 0, y 1, y 2, y 3, eq_ix4 y⟩
  obtain rfl := Subsingleton.elim a 0
  exact canon_codePieces p 32 _ h r d h.isLt

end

/-! ## The blocks of the three results, from the blocks of the arguments -/

section
variable (Q K : Vec F S1x1x16x128 .bf16) (V : Vec F S1x1x32x256 .bf16) (G B : Vec F S1x1x32 .f32)
  (C : Vec F S1x32x128x256 .fp8e4m3) (S : Vec F S1x32x128 .f32)

/-- The first result's block. -/
def outBlock : Vec F S1x32x256 .bf16 := fun y =>
  headOut Q K G B S (y 1) (ld C (headRect (y 1))) (ld V (rowRect (y 1))) (ix3 (0 : Fin 1) (0 : Fin 1) (y 2))

/-- The second result's block. -/
def codeBlock : Vec F S1x32x128x256 .fp8e4m3 := fun y =>
  headCodes Q K G B S (y 1) (ld C (headRect (y 1))) (ld V (rowRect (y 1))) (ix4 (0 : Fin 1) (0 : Fin 1) (y 2) (y 3))

/-- The third result's block. -/
def scaleBlock : Vec F S1x32x128 .f32 :=
  blockScales fun h => headAmax Q K G B S h (ld C (headRect h)) (ld V (rowRect h))

end

end Cert.KernelIdeal.Gen

end
-- ==== Proof.KernelIdeal.Contents.lean ====
/-
  What a run of the body leaves in its three result buffers: the blocks of `Block.lean`, as functions of what the argument
  buffers held (`run_out`, `run_codes`, `run_scales`). The run's stores are, one by one, the lists of `Block.lean`.
-/
module

public import proofs.«01_k».proof.Proof.KernelIdeal.Run
public import proofs.«01_k».proof.Proof.KernelIdeal.Block
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.View (ld)

variable {F : FTy → Type} [FloatOps F]

variable (c : Dev nD) (i : grid0.Coords) (arg2 : Memref sig .tc .vmem S1x1x16x128 .bf16) (harg2 : arg2.IsWhole) (arg3 : Memref sig .tc .vmem S1x1x16x128 .bf16) (harg3 : arg3.IsWhole) (arg4 : Memref sig .tc .vmem S1x1x32x256 .bf16) (harg4 : arg4.IsWhole) (arg5 : Memref sig .tc .vmem S1x1x32 .f32) (harg5 : arg5.IsWhole) (arg6 : Memref sig .tc .vmem S1x1x32 .f32) (harg6 : arg6.IsWhole) (arg7 : Memref sig .tc .vmem S1x32x128x256 .fp8e4m3) (harg7 : arg7.IsWhole) (arg8 : Memref sig .tc .vmem S1x32x128 .f32) (harg8 : arg8.IsWhole) (arg9 : Memref sig .tc .vmem S1x32x256 .bf16) (harg9 : arg9.IsWhole) (arg10 : Memref sig .tc .vmem S1x32x128x256 .fp8e4m3) (harg10 : arg10.IsWhole) (arg11 : Memref sig .tc .vmem S1x32x128 .f32) (harg11 : arg11.IsWhole)
  (x0 : Vec F S1x1x16x128 .bf16) (x1 : Vec F S1x1x16x128 .bf16) (x2 : Vec F S1x1x32x256 .bf16) (x3 : Vec F S1x1x32 .f32) (x4 : Vec F S1x1x32 .f32) (x5 : Vec F S1x32x128x256 .fp8e4m3) (x6 : Vec F S1x32x128 .f32) (xt0 : TbBuf0 (F := F) c tbM0_0)

/-- All of a buffer of queries, of decays, of scales. -/
abbrev allQ : Rect S1x1x16x128 := Rect.unit (s := S1x1x16x128) ![0, 0, 0, 0] S1x1x16x128.size inb_S1x1x16x128_S1x1x16x128_0_0_0_0
abbrev allG : Rect S1x1x32 := Rect.unit (s := S1x1x32) ![0, 0, 0] S1x1x32.size inb_S1x1x32_S1x1x32_0_0_0
abbrev allS : Rect S1x32x128 := Rect.unit (s := S1x32x128) ![0, 0, 0] S1x32x128.size inb_S1x32x128_S1x32x128_0_0_0

/-- What a load of a whole buffer reads. -/
theorem readAt_unread_eq_ld {κ : Kind} {sp : Space} {s : Shape} {e : EltTy} {m : Memref sig κ sp s e} (h : m.IsWhole) (X : s.Idx → Elt F e) (r : Rect s) :
    View.readAt (Elt F) m.view r.toLoadRect (h.unread X) = ld X r :=
  funext fun x => h.readAt_unread X r.toLoadRect x

/-- The run's stores of the first result. -/
theorem run_outPieces (f : Buf (Elt F) (arg9.view.loc (c : Thread nD τ))) :
    (kernelRun0_A c i arg2 harg2 arg3 harg3 arg4 harg4 arg5 harg5 arg6 harg6 arg7 harg7 arg8 harg8 arg9 harg9 arg10 harg10 arg11 harg11 x0 x1 x2 x3 x4 x5 x6 xt0).1 f
      = outPieces arg9.view f (fun h => headOut (View.readAt (Elt F) arg2.view allQ.toLoadRect (harg2.unread x0)) (View.readAt (Elt F) arg3.view allQ.toLoadRect (harg3.unread x1))
          (View.readAt (Elt F) arg5.view allG.toLoadRect (harg5.unread x3)) (View.readAt (Elt F) arg6.view allG.toLoadRect (harg6.unread x4)) (View.readAt (Elt F) arg8.view allS.toLoadRect (harg8.unread x6)) h
          (View.readAt (Elt F) arg7.view (headRect h).toLoadRect (harg7.unread x5)) (View.readAt (Elt F) arg4.view (rowRect h).toLoadRect (harg4.unread x2))) 16 (Nat.le_refl _) := by
  sl_kernel_rfl

/-- The run's stores of the second result. -/
theorem run_codePieces :
    (kernelRun0_A c i arg2 harg2 arg3 harg3 arg4 harg4 arg5 harg5 arg6 harg6 arg7 harg7 arg8 harg8 arg9 harg9 arg10 harg10 arg11 harg11 x0 x1 x2 x3 x4 x5 x6 xt0).2.1
      = codePieces (fun h => headCodes (View.readAt (Elt F) arg2.view allQ.toLoadRect (harg2.unread x0)) (View.readAt (Elt F) arg3.view allQ.toLoadRect (harg3.unread x1))
          (View.readAt (Elt F) arg5.view allG.toLoadRect (harg5.unread x3)) (View.readAt (Elt F) arg6.view allG.toLoadRect (harg6.unread x4)) (View.readAt (Elt F) arg8.view allS.toLoadRect (harg8.unread x6)) h
          (View.readAt (Elt F) arg7.view (headRect h).toLoadRect (harg7.unread x5)) (View.readAt (Elt F) arg4.view (rowRect h).toLoadRect (harg4.unread x2))) 32 (Nat.le_refl _) := by
  sl_kernel_rfl

/-- The run's store of the third result. -/
theorem run_scalePieces :
    (kernelRun0_A c i arg2 harg2 arg3 harg3 arg4 harg4 arg5 harg5 arg6 harg6 arg7 harg7 arg8 harg8 arg9 harg9 arg10 harg10 arg11 harg11 x0 x1 x2 x3 x4 x5 x6 xt0).2.2.1
      = [⟨allS, blockScales (fun h => headAmax (View.readAt (Elt F) arg2.view allQ.toLoadRect (harg2.unread x0)) (View.readAt (Elt F) arg3.view allQ.toLoadRect (harg3.unread x1))
          (View.readAt (Elt F) arg5.view allG.toLoadRect (harg5.unread x3)) (View.readAt (Elt F) arg6.view allG.toLoadRect (harg6.unread x4)) (View.readAt (Elt F) arg8.view allS.toLoadRect (harg8.unread x6)) h
          (View.readAt (Elt F) arg7.view (headRect h).toLoadRect (harg7.unread x5)) (View.readAt (Elt F) arg4.view (rowRect h).toLoadRect (harg4.unread x2)))⟩] := by
  sl_kernel_rfl

/-- A load of all of a buffer reads all of it. -/
theorem ld_allQ (X : Vec F S1x1x16x128 .bf16) : ld X allQ = X := View.ld_unit_zero (by funext a; revert a; decide) _ X
theorem ld_allG (X : Vec F S1x1x32 .f32) : ld X allG = X := View.ld_unit_zero (by funext a; revert a; decide) _ X
theorem ld_allS (X : Vec F S1x32x128 .f32) : ld X allS = X := View.ld_unit_zero (by funext a; revert a; decide) _ X

/-- What the run leaves in the first result's buffer, whatever that held before. -/
theorem run_out (f : Buf (Elt F) (arg9.view.loc (c : Thread nD τ))) :
    arg9.view.read (Elt F) (arg9.view.writes (Elt F) f ((kernelRun0_A c i arg2 harg2 arg3 harg3 arg4 harg4 arg5 harg5 arg6 harg6 arg7 harg7 arg8 harg8 arg9 harg9 arg10 harg10 arg11 harg11 x0 x1 x2 x3 x4 x5 x6 xt0).1 f)) = outBlock x0 x1 x2 x3 x4 x5 x6 := by
  rw [run_outPieces, read_outPieces]
  simp only [readAt_unread_eq_ld, ld_allQ, ld_allG, ld_allS]
  rfl

/-- What the run leaves in the second result's buffer. -/
theorem run_codes (f : Buf (Elt F) (arg10.view.loc (c : Thread nD τ))) :
    arg10.view.read (Elt F) (arg10.view.writes (Elt F) f (kernelRun0_A c i arg2 harg2 arg3 harg3 arg4 harg4 arg5 harg5 arg6 harg6 arg7 harg7 arg8 harg8 arg9 harg9 arg10 harg10 arg11 harg11 x0 x1 x2 x3 x4 x5 x6 xt0).2.1) = codeBlock x0 x1 x2 x3 x4 x5 x6 := by
  rw [run_codePieces, read_codePieces]
  simp only [readAt_unread_eq_ld, ld_allQ, ld_allG, ld_allS]
  rfl

/-- What the run leaves in the third result's buffer. -/
theorem run_scales (f : Buf (Elt F) (arg11.view.loc (c : Thread nD τ))) :
    arg11.view.read (Elt F) (arg11.view.writes (Elt F) f (kernelRun0_A c i arg2 harg2 arg3 harg3 arg4 harg4 arg5 harg5 arg6 harg6 arg7 harg7 arg8 harg8 arg9 harg9 arg10 harg10 arg11 harg11 x0 x1 x2 x3 x4 x5 x6 xt0).2.2.1) = scaleBlock x0 x1 x2 x3 x4 x5 x6 := by
  rw [run_scalePieces, View.read_writes_eq_canon]
  · simp only [readAt_unread_eq_ld, ld_allQ, ld_allG, ld_allS]
    exact View.canon_unit_zero (by funext a; revert a; decide) _ _
  · intro y
    refine ⟨_, List.mem_cons_self, (Rect.mem_set_unit (inb := inb_S1x32x128_S1x32x128_0_0_0)).mpr fun a => ?_⟩
    match a with
    | ⟨0, _⟩ => exact ⟨Nat.zero_le _, by simpa using (y 0).isLt⟩
    | ⟨1, _⟩ => exact ⟨Nat.zero_le _, by simpa using (y 1).isLt⟩
    | ⟨2, _⟩ => exact ⟨Nat.zero_le _, by simpa using (y 2).isLt⟩

end Cert.KernelIdeal.Gen

end
-- ==== Proof.KernelIdeal.Frame.lean ====
/-
  The frame of the kernel: from a launch memory whose table of slots is admissible (`Ok`), every weakly fair execution
  terminates, the arguments end unchanged and every counter ends at zero (`frame`); and what every array of the pipeline
  holds then (`run_main`, over `dats`: after the body at a point the result windows hold `outBlock`, `codeBlock` and
  `scaleBlock` of the point's blocks).
-/
module

public import proofs.«01_k».proof.Proof.KernelIdeal.Contents
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the results' at the blocks of `Block.lean`; the invariant of the rest of
    the core's state and of the table's half; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outBlock (iblk m hO c 0 t) (iblk m hO c 1 t) (iblk m hO c 2 t) (iblk m hO c 3 t) (iblk m hO c 4 t) (iblk m hO c 5 t) (iblk m hO c 6 t)
    | ⟨8, _⟩ => codeBlock (iblk m hO c 0 t) (iblk m hO c 1 t) (iblk m hO c 2 t) (iblk m hO c 3 t) (iblk m hO c 4 t) (iblk m hO c 5 t) (iblk m hO c 6 t)
    | ⟨9, _⟩ => scaleBlock (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outBlock (iblk m hO c 0 t) (iblk m hO c 1 t) (iblk m hO c 2 t) (iblk m hO c 3 t) (iblk m hO c 4 t) (iblk m hO c 5 t) (iblk m hO c 6 t) := by dsimp only [dats]; try rfl
theorem after0_8 (hO : Ok m) (c : Dev nD) (t : Fin (cfgM m hO).N) : (dats m hO 0 c).after 8 t = codeBlock (iblk m hO c 0 t) (iblk m hO c 1 t) (iblk m hO c 2 t) (iblk m hO c 3 t) (iblk m hO c 4 t) (iblk m hO c 5 t) (iblk m hO c 6 t) := by dsimp only [dats]; try rfl
theorem after0_9 (hO : Ok m) (c : Dev nD) (t : Fin (cfgM m hO).N) : (dats m hO 0 c).after 9 t = scaleBlock (iblk m hO c 0 t) (iblk m hO c 1 t) (iblk m hO c 2 t) (iblk m hO c 3 t) (iblk m hO c 4 t) (iblk m hO c 5 t) (iblk m hO c 6 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HT0]; · iexact HT0
  iintro ⟨H0, H1, H2, H3, H4, H5, H6, ⟨%e7, H7⟩, ⟨%e8, H8⟩, ⟨%e9, H9⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact run_out ..
  isplitl [H8]
  · unfold owns; iexists _; isplitr
    swap; · iexact H8
    ipureintro; exact run_codes ..
  unfold owns; iexists _; isplitr
  swap; · iexact H9
  ipureintro; exact run_scales ..

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame, for every admissible contents of the table of slots: the argument arrays end unchanged and every
    semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.KernelIdeal.Slots.lean ====
/-
  The table of slots. At grid point `i` the index maps of the two windows over the state's pool read word `i` of the table
  (`slot_map5`, `slot_map6`); where every word is a row of the pool, the pipeline runs (`ok_of_slots`).
-/
module

public import proofs.«01_k».proof.Proof.KernelIdeal.Kit
public import Idealize.ShloMosaic.Lib.Affine
public import Idealize.ShloMosaic.Lib.ValueIdxCore

@[expose] public section

noncomputable section

namespace Cert.KernelIdeal.Gen

open Idealize.ShloMosaic Idealize.ShloMosaic.TcCoe Idealize.SL.Sem
open Idealize.ShloMosaic.ValueIdx

variable {F : FTy → Type} [FloatOps F]

/-- The row of the pool that grid point `i` reads. -/
def slotAt (pf : pre0.Contents (Elt F)) (i : grid0.Coords) : BitVec 32 := pf 0 (ix1 (i 0) : S48.Idx)

theorem slot_word (pf : pre0.Contents (Elt F)) (i : grid0.Coords) :
    pf.at 0 (Rect.unit (s := S48) ![(Scalar.indexCast (BitVec.ofNat 32 (i 0).val)).toNat] S1.size (k0_off1_inb i)) numel1_S1 = slotAt pf i := by
  unfold slotAt
  refine congrArg (pf 0) ?_
  show (Rect.unit (s := S48) ![(Scalar.indexCast (BitVec.ofNat 32 (i 0).val)).toNat] S1.size (k0_off1_inb i)).emb (Shape.Idx.first (numel1_S1.symm ▸ Nat.one_pos)) = ix1 (i 0)
  funext (a : Fin 1)
  obtain rfl : a = 0 := Subsingleton.elim _ _
  have h : (i 0).val < 48 := (i 0).isLt
  apply Fin.ext
  show (BitVec.ofNat 32 (i 0).val).toNat + 1 * 0 = (i 0).val
  simp [BitVec.toNat_ofNat]
  omega

theorem slot_map5 (pf : pre0.Contents (Elt F)) (i : grid0.Coords) :
    cc0_transform_5 k0_off1_inb numel1_S1 pf i = ![(slotAt pf i).toNat, 0, 0, 0] := by
  rw [← slot_word]; rfl

theorem slot_map6 (pf : pre0.Contents (Elt F)) (i : grid0.Coords) :
    cc0_transform_6 k0_off1_inb numel1_S1 pf i = ![(slotAt pf i).toNat, 0, 0] := by
  rw [← slot_word]; rfl

/-- The pipeline runs at every table whose words are rows of the pool. -/
theorem ok_of_slots (pf : pre0.Contents (Elt F)) (h : ∀ i : grid0.Coords, (slotAt pf i).toNat < 60) : ok0 pf := by
  refine ⟨fun i => ⟨fun a => ?_, .inr (Affine.block_words_dvd (of_decide_eq_true rfl) (by decide))⟩, fun i => ⟨fun a => ?_, .inl rfl⟩⟩
  · rw [slot_map5]
    have := h i
    match a with
    | ⟨0, _⟩ => show ((slotAt pf i).toNat + 1) * 1 ≤ 60; omega
    | ⟨1, _⟩ => show (0 + 1) * 32 ≤ 32; omega
    | ⟨2, _⟩ => show (0 + 1) * 128 ≤ 128; omega
    | ⟨3, _⟩ => show (0 + 1) * 256 ≤ 256; omega
  · rw [slot_map6]
    have := h i
    match a with
    | ⟨0, _⟩ => show ((slotAt pf i).toNat + 1) * 1 ≤ 60; omega
    | ⟨1, _⟩ => show (0 + 1) * 32 ≤ 32; omega
    | ⟨2, _⟩ => show (0 + 1) * 128 ≤ 128; omega

end Cert.KernelIdeal.Gen

end
-- ==== Proof.Value.Spec.lean ====
/-
  One decode step of the gated delta rule for one value head, as functions of extended reals: the key and the query are
  brought to unit length, the state is what its codes and scales say, it decays, answers to the key, is corrected by the
  step size times what the answer misses of the value, and answers to the query. The new state is stored row by row as a
  power-of-two scale and codes: the scale is the least power of two, from 2^-126 to 2^126, above the row's largest
  magnitude over 448, and 1 for a row of zeros.
-/
module

public import Idealize.ShloMosaic.PureOps.Ideal

@[expose] public section

noncomputable section

namespace Cert.Spec

open Idealize.ShloMosaic

variable (q k s : Fin 128 → EReal) (c : Fin 128 → Fin 256 → EReal) (v : Fin 256 → EReal) (g b : EReal)

/-- One over the length of a row, the sum of squares kept away from zero. -/
def invLength (x : Fin 128 → EReal) : EReal := Ideal.rsqrt (∑ i, x i * x i + Ideal.ofBits .f32 0x358637BD#32)

/-- The key at unit length. -/
def key (r : Fin 128) : EReal := k r * invLength k

/-- The query at unit length, over the square root of 128. -/
def query (r : Fin 128) : EReal := q r * invLength q * Ideal.ofBits .f32 0x3DB504F3#32

/-- What the stored state answers to a row. -/
def answer (x : Fin 128 → EReal) (d : Fin 256) : EReal := ∑ r, x r * (c r d * s r)

/-- The correction. -/
def delta (d : Fin 256) : EReal := b * (v d - Ideal.exp g * answer s c (key k) d)

/-- The output row. -/
def out (d : Fin 256) : EReal :=
  Ideal.exp g * answer s c (query q) d + (∑ r, query q r * key k r) * delta k s c v g b d

/-- The new state. -/
def state (r : Fin 128) (d : Fin 256) : EReal := Ideal.exp g * (c r d * s r) + key k r * delta k s c v g b d

/-- The largest magnitude of a row. -/
def amax (y : Fin 256 → EReal) : EReal :=
  Finset.univ.fold max (Ideal.ofBits .f32 0xFF800000#32) fun d => max (y d) (-y d)

/-- The power of two number `j`, of those from 2^-126 on. -/
def power (j : Fin 253) : EReal := Ideal.exp2 (((IntOp.subi (BitVec.ofNat 32 j.val) 126#32).toInt : ℝ) : EReal)

/-- The scale of a row whose largest magnitude is `m`. -/
def scale (m : EReal) : EReal :=
  if m = 0 then 1 else
    Finset.univ.fold min (Ideal.ofBits .f32 0x7F800000#32) fun j : Fin 253 =>
      if m * Ideal.ofBits .f32 0x3B124925#32 < power j then power j else Ideal.ofBits .f32 0x7E800000#32

/-- The code of an entry `y` of a row whose largest magnitude is `m`: over the scale, clipped to ±448. -/
def code (y m : EReal) : EReal :=
  min (Ideal.ofBits .f32 0x43E00000#32) (max (Ideal.ofBits .f32 0xC3E00000#32) (y * Ideal.div 1 (scale m)))

end Cert.Spec

end
-- ==== Proof.Value.Quantiser.lean ====
/-
  The quantiser that counts: among the powers of two 2^-126 … 2^125 it counts those at most the row's largest magnitude
  over 448, and writes the count as the exponent of the scale and of its inverse. `countScale_eq` and `countInv_eq` say
  that these are `Spec.scale` and one over it.
-/
module

public import proofs.«01_k».proof.Proof.Value.Spec
public import Idealize.ShloMosaic.Lib.IdealHost
public import Idealize.ShloMosaic.Lib.IndicatorCount

@[expose] public section

noncomputable section

namespace Cert.Spec

open Idealize.ShloMosaic

/-- How many of the powers of two are at most `m` over 448. -/
def count (m : EReal) : BitVec 32 :=
  Finset.fold IntOp.addi (0#32) (fun x : Fin 252 =>
    if Ideal.ofBits .f32 (IntOp.shli ArithUnit.vector (IntOp.addi (BitVec.ofNat 32 x.val) 1#32) 23#32) ≤ m * Ideal.ofBits .f32 0x3B124925#32
    then 1#32 else 0#32) Finset.univ

/-- The scale by the count. -/
def countScale (m : EReal) : EReal :=
  Ideal.ofBits .f32 (IntOp.shli ArithUnit.vector (if m = 0 then 127#32 else IntOp.addi (count m) 1#32) 23#32)

/-- The inverse of the scale by the count. -/
def countInv (m : EReal) : EReal :=
  Ideal.ofBits .f32 (IntOp.shli ArithUnit.vector (if m = 0 then 127#32 else IntOp.subi 253#32 (count m)) 23#32)

/-- The real power of two. -/
def pw (z : ℤ) : EReal := (((2 : ℝ) ^ z : ℝ) : EReal)

theorem pw_le {a b : ℤ} : pw a ≤ pw b ↔ a ≤ b := by
  unfold pw
  rw [EReal.coe_le_coe_iff]
  exact zpow_le_zpow_iff_right₀ (by norm_num)

theorem field_bits (n : Fin 255) :
    ((IntOp.shli ArithUnit.vector (BitVec.ofNat 32 n.val) 23#32).extractLsb' (8 + 23) 1 == 1#1) = false
      ∧ ((IntOp.shli ArithUnit.vector (BitVec.ofNat 32 n.val) 23#32).extractLsb' 23 8).toNat = n.val
      ∧ ((IntOp.shli ArithUnit.vector (BitVec.ofNat 32 n.val) 23#32).extractLsb' 0 23).toNat = 0 := by
  revert n; decide +kernel

/-- An exponent alone, read as a float, is a power of two. -/
theorem ofBits_field (n : ℕ) (h0 : 0 < n) (h1 : n < 255) :
    Ideal.ofBits .f32 (IntOp.shli ArithUnit.vector (BitVec.ofNat 32 n) 23#32) = pw ((n : ℤ) - 127) := by
  obtain ⟨hs, he, hf⟩ := field_bits ⟨n, h1⟩
  simp only at hs he hf
  show Ideal.ieee 8 23 _ = _
  unfold Ideal.ieee pw
  simp only [hs, he, hf]
  rw [if_neg (by omega), if_neg (by omega)]
  refine congrArg (fun r : ℝ => (r : EReal)) ?_
  have e : ((n : ℤ) - (2 ^ (8 - 1) - 1) - ((23 : ℕ) : ℤ)) = ((n : ℤ) - 127) + (-23) := by norm_num; ring
  rw [e, zpow_add₀ (by norm_num)]
  norm_num
  ring

theorem top_bits : Ideal.ofBits .f32 0x7F800000#32 = ⊤ := by simp [Ideal.ofBits, Ideal.ieee]

theorem last_bits : Ideal.ofBits .f32 0x7E800000#32 = pw 126 := ofBits_field 253 (by norm_num) (by norm_num)

theorem power_eq (j : Fin 253) : power j = pw ((j.val : ℤ) - 126) := by
  have h : (IntOp.subi (BitVec.ofNat 32 j.val) 126#32).toInt = (j.val : ℤ) - 126 := by revert j; decide
  unfold power pw
  rw [h]
  show ((Real.rpow 2 (((j.val : ℤ) - 126 : ℤ) : ℝ) : ℝ) : EReal) = _
  exact congrArg _ (Real.rpow_intCast 2 _)

theorem threshold_eq (x : Fin 252) :
    Ideal.ofBits .f32 (IntOp.shli ArithUnit.vector (IntOp.addi (BitVec.ofNat 32 x.val) 1#32) 23#32) = pw ((x.val : ℤ) - 126) := by
  have h : IntOp.addi (BitVec.ofNat 32 x.val) 1#32 = BitVec.ofNat 32 (x.val + 1) := by
    show BitVec.ofNat 32 x.val + BitVec.ofNat 32 1 = _
    exact (BitVec.ofNat_add _ _).symm
  rw [h, ofBits_field _ (by omega) (by omega)]
  congr 1
  push_cast
  ring

/-- The number of powers of two at most `x`, of 2^-126 … 2^125. -/
def below (x : EReal) : ℕ := (Finset.univ.filter fun j : Fin 252 => pw ((j.val : ℤ) - 126) ≤ x).card

theorem below_le (x : EReal) : below x ≤ 252 := by
  refine (Finset.card_filter_le _ _).trans ?_
  simp

theorem count_eq (m : EReal) : count m = BitVec.ofNat 32 (below (m * Ideal.ofBits .f32 0x3B124925#32)) := by
  unfold count below
  simp only [threshold_eq]
  have h := IndicatorCount.fold_addi_setWidth_eq_card (w := 32)
    (fun j : Fin 252 => if pw ((j.val : ℤ) - 126) ≤ m * Ideal.ofBits .f32 0x3B124925#32 then 1#1 else 0#1) Finset.univ
  refine Eq.trans (Finset.fold_congr fun j _ => ?_) (h.trans ?_)
  · split <;> rfl
  · congr 2
    ext j
    simp only [Finset.mem_filter, Finset.mem_univ, true_and]
    split <;> simp_all

/-- The powers of two at most `x` are the first `below x` of them. -/
theorem le_iff_lt_below (x : EReal) (j : Fin 252) : pw ((j.val : ℤ) - 126) ≤ x ↔ j.val < below x := by
  constructor
  · intro h
    have hs : (Finset.univ.filter fun i : Fin 252 => i.val ≤ j.val) ⊆ Finset.univ.filter fun i : Fin 252 => pw ((i.val : ℤ) - 126) ≤ x := by
      intro i hi
      simp only [Finset.mem_filter, Finset.mem_univ, true_and] at hi ⊢
      exact (pw_le.mpr (by omega)).trans h
    have hc := Finset.card_le_card hs
    have e : (Finset.univ.filter fun i : Fin 252 => i.val ≤ j.val).card = j.val + 1 := by
      have : (Finset.univ.filter fun i : Fin 252 => i.val ≤ j.val) = Finset.Iic j := by
        exact Finset.ext fun i => by rw [Finset.mem_filter, Finset.mem_Iic]; exact ⟨fun h => h.2, fun h => ⟨Finset.mem_univ _, h⟩⟩
      rw [this, Fin.card_Iic]
    rw [e] at hc
    exact hc
  · intro h
    by_contra hn
    have hs : (Finset.univ.filter fun i : Fin 252 => pw ((i.val : ℤ) - 126) ≤ x) ⊆ Finset.univ.filter fun i : Fin 252 => i.val < j.val := by
      intro i hi
      simp only [Finset.mem_filter, Finset.mem_univ, true_and] at hi ⊢
      by_contra hij
      exact hn ((pw_le.mpr (by omega)).trans hi)
    have hc := Finset.card_le_card hs
    have e : (Finset.univ.filter fun i : Fin 252 => i.val < j.val).card = j.val := by
      have : (Finset.univ.filter fun i : Fin 252 => i.val < j.val) = Finset.Iio j := by
        exact Finset.ext fun i => by rw [Finset.mem_filter, Finset.mem_Iio]; exact ⟨fun h => h.2, fun h => ⟨Finset.mem_univ _, h⟩⟩
      rw [this, Fin.card_Iio]
    rw [e] at hc
    unfold below at h
    omega

/-- The least power of two above `x`, or 2^126. -/
theorem fold_min_eq (x : EReal) :
    (Finset.univ.fold min (Ideal.ofBits .f32 0x7F800000#32) fun j : Fin 253 => if x < power j then power j else Ideal.ofBits .f32 0x7E800000#32)
      = pw ((below x : ℤ) - 126) := by
  have hb := below_le x
  rw [top_bits, last_bits]
  simp only [power_eq]
  apply le_antisymm
  · refine (Finset.fold_min_le _).mpr (.inr ⟨⟨below x, by omega⟩, Finset.mem_univ _, ?_⟩)
    dsimp only
    split
    · exact le_rfl
    · rename_i hx
      refine pw_le.mpr ?_
      by_contra hlt
      have hl : below x < 252 := by omega
      have := (le_iff_lt_below x ⟨below x, hl⟩).mp (not_lt.mp hx)
      exact absurd this (lt_irrefl _)
  · refine (Finset.le_fold_min _).mpr ⟨le_top, fun j _ => ?_⟩
    split
    · rename_i hx
      refine pw_le.mpr ?_
      by_contra hlt
      have hj : j.val < below x := by omega
      have := (le_iff_lt_below x ⟨j.val, by omega⟩).mpr hj
      exact absurd hx (not_lt.mpr this)
    · exact pw_le.mpr (by omega)

theorem pw_zero : pw 0 = 1 := by simp [pw]

theorem one_field : Ideal.ofBits .f32 (IntOp.shli ArithUnit.vector 127#32 23#32) = 1 := by
  refine (ofBits_field 127 (by norm_num) (by norm_num)).trans ?_
  rw [← pw_zero]
  rfl

theorem scale_eq (m : EReal) (h : m ≠ 0) : scale m = pw ((below (m * Ideal.ofBits .f32 0x3B124925#32) : ℤ) - 126) := by
  unfold scale
  rw [if_neg h]
  exact fold_min_eq _

/-- The count's scale is the least power of two above the magnitude over 448. -/
theorem countScale_eq (m : EReal) : countScale m = scale m := by
  by_cases h : m = 0
  · unfold countScale scale
    rw [if_pos h, if_pos h, one_field]
  · have hb := below_le (m * Ideal.ofBits .f32 0x3B124925#32)
    unfold countScale
    rw [if_neg h, scale_eq m h, count_eq]
    have e : IntOp.addi (BitVec.ofNat 32 (below (m * Ideal.ofBits .f32 0x3B124925#32))) 1#32
        = BitVec.ofNat 32 (below (m * Ideal.ofBits .f32 0x3B124925#32) + 1) := (BitVec.ofNat_add _ _).symm
    rw [e, ofBits_field _ (by omega) (by omega)]
    congr 1
    push_cast
    ring

theorem div_one_pw (z : ℤ) : Ideal.div 1 (pw z) = pw (-z) := by
  have hp : (2 : ℝ) ^ z ≠ 0 := zpow_ne_zero _ (by norm_num)
  unfold Ideal.div pw
  rw [if_neg (by exact_mod_cast hp), one_mul, ← EReal.coe_inv, zpow_neg]

/-- The count's inverse is one over the scale. -/
theorem countInv_eq (m : EReal) : countInv m = Ideal.div 1 (scale m) := by
  by_cases h : m = 0
  · unfold countInv scale
    rw [if_pos h, if_pos h, one_field, ← pw_zero]
    nth_rw 2 [pw_zero]
    rw [div_one_pw]
    rfl
  · have hb := below_le (m * Ideal.ofBits .f32 0x3B124925#32)
    unfold countInv
    rw [if_neg h, scale_eq m h, count_eq, div_one_pw]
    generalize below (m * Ideal.ofBits .f32 0x3B124925#32) = n at hb
    have e : IntOp.subi 253#32 (BitVec.ofNat 32 n) = BitVec.ofNat 32 (253 - n) := by
      show 253#32 - BitVec.ofNat 32 n = _
      apply BitVec.eq_of_toNat_eq
      simp only [BitVec.toNat_sub, BitVec.toNat_ofNat]
      omega
    rw [e, ofBits_field _ (by omega) (by omega)]
    congr 1
    omega

end Cert.Spec

end
-- ==== Proof.Value.HeadValue.lean ====
/-
  What the kernel's body computes for one value head at the ideal instance: the entries of its row of the output, of its
  new state, of its codes and of the scales are those of `Cert.Spec`, at the rows of the head's blocks.
-/
module

public import proofs.«01_k».proof.Proof.KernelIdeal.Head
public import proofs.«01_k».proof.Proof.Value.Quantiser
public import Idealize.ShloMosaic.Lib.Pointwise

@[expose] public section

set_option maxRecDepth 16384

noncomputable section

namespace Cert.KernelIdeal.Gen

open Idealize.ShloMosaic Idealize.SL.Sem

variable (Q K : Vec Ideal S1x1x16x128 .bf16) (G B : Vec Ideal S1x1x32 .f32) (S : Vec Ideal S1x32x128 .f32) (h : Fin 32)
  (C : Vec Ideal S1x1x128x256 .fp8e4m3) (v : Vec Ideal S1x1x1x256 .bf16)

/-- The group of a value head. -/
def group (h : Fin 32) : Fin 16 := ⟨h.val / 2, by omega⟩

/-- A group's row of a block of keys or queries. -/
abbrev groupRow (X : Vec Ideal S1x1x16x128 .bf16) (h : Fin 32) : Fin 128 → EReal := fun r => X (ix4 0 0 (group h) r)
/-- The scales of a head's block. -/
abbrev headScale (S : Vec Ideal S1x32x128 .f32) (h : Fin 32) : Fin 128 → EReal := fun r => S (ix3 0 h r)
/-- A head's codes. -/
abbrev headCode (C : Vec Ideal S1x1x128x256 .fp8e4m3) : Fin 128 → Fin 256 → EReal := fun r d => C (ix4 0 0 r d)
/-- A head's values. -/
abbrev headValue (v : Vec Ideal S1x1x1x256 .bf16) : Fin 256 → EReal := fun d => v (ix4 0 0 0 d)

theorem key_entry (r : Fin 128) : k0_pay3 K (ix2 (group h) r) = Spec.key (groupRow K h) r := by
  pointwise [k0_pay3]
  rfl

theorem query_entry (r : Fin 128) : k0_pay2 Q (ix2 (group h) r) = Spec.query (groupRow Q h) r := by
  pointwise [k0_pay2]
  rfl

theorem dot_key (d : Fin 256) : headDot Q K S h C (ix2 0 d) = Spec.answer (headScale S h) (headCode C) (Spec.key (groupRow K h)) d := by
  pointwise [headDot, k0_pay7]
  refine Finset.sum_congr rfl fun r _ => ?_
  rw [← key_entry, mul_assoc, mul_comm (C _)]
  rfl

theorem dot_query (d : Fin 256) : headDot Q K S h C (ix2 1 d) = Spec.answer (headScale S h) (headCode C) (Spec.query (groupRow Q h)) d := by
  pointwise [headDot, k0_pay7]
  refine Finset.sum_congr rfl fun r _ => ?_
  rw [← query_entry, mul_assoc, mul_comm (C _)]
  rfl

theorem delta_entry (d : Fin 256) : headDelta Q K G B S h C v (ix2 0 d)
    = Spec.delta (groupRow K h) (headScale S h) (headCode C) (headValue v) (G (ix3 0 0 h)) (B (ix3 0 0 h)) d := by
  pointwise [headDelta, headDecay, k0_pay5, k0_pay6]
  rw [dot_key]
  rfl

theorem out_entry (d : Fin 256) : headOut Q K G B S h C v (ix3 0 0 d)
    = Spec.out (groupRow Q h) (groupRow K h) (headScale S h) (headCode C) (headValue v) (G (ix3 0 0 h)) (B (ix3 0 0 h)) d := by
  pointwise [headOut, headDecay, k0_pay4, k0_pay5]
  rw [dot_query, delta_entry, Spec.out]
  simp only [← key_entry, ← query_entry]
  rfl

theorem state_entry (r : Fin 128) (d : Fin 256) : headState Q K G B S h C v (ix2 r d)
    = Spec.state (groupRow K h) (headScale S h) (headCode C) (headValue v) (G (ix3 0 0 h)) (B (ix3 0 0 h)) r d := by
  pointwise [headState, headDecay, k0_pay9, k0_pay8, k0_pay7, k0_pay5]
  rw [delta_entry, Spec.state, ← key_entry, mul_comm (S _), mul_assoc, mul_comm (S _)]
  rfl

theorem amax_entry (s : FVec Ideal S128x256 .f32) (r : Fin 128) : stateAmax s (ix2 r 0) = Spec.amax fun d => s (ix2 r d) := by
  pointwise [stateAmax]
  rfl

theorem codes_entry (s : FVec Ideal S128x256 .f32) (r : Fin 128) (d : Fin 256) :
    stateCodes s (ix4 0 0 r d) = Spec.code (s (ix2 r d)) (stateAmax s (ix2 r 0)) := by
  rw [Spec.code, ← Spec.countInv_eq]
  pointwise [stateCodes, k0_pay19]
  rfl

/-- The heads' largest magnitudes laid side by side. -/
theorem all_amax (A : Fin 32 → FVec Ideal S128x1 .f32) (h : Fin 32) (r : Fin 128) :
    k0_pay367 (A 0) (A 1) (A 2) (A 3) (A 4) (A 5) (A 6) (A 7) (A 8) (A 9) (A 10) (A 11) (A 12) (A 13) (A 14) (A 15)
      (A 16) (A 17) (A 18) (A 19) (A 20) (A 21) (A 22) (A 23) (A 24) (A 25) (A 26) (A 27) (A 28) (A 29) (A 30) (A 31) (ix2 h r)
      = A h (ix2 r 0) := by
  have e (x : FVec Ideal S128x32 .f32) : transpose S32x128 [1, 0] x transposes_S128x32_p1_0_S32x128 (ix2 h r) = x (ix2 r h) := by pointwise
  unfold k0_pay367
  refine (e _).trans ?_
  exact concatenate_ofFn_unit_apply (s₁ := S128x1) (t := S128x32) 1 A
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1
    rfl rfl (ix2 r h) h rfl (ix2 r 0) fun b hb => by fin_cases b <;> first | rfl | exact absurd rfl hb

theorem scales_entry (A : Fin 32 → FVec Ideal S128x1 .f32) (h : Fin 32) (r : Fin 128) :
    blockScales A (ix3 0 h r) = Spec.scale (A h (ix2 r 0)) := by
  rw [← Spec.countScale_eq, ← all_amax A h r]
  unfold blockScales k0_pay368 k0_pay369
  generalize k0_pay367 (A 0) (A 1) (A 2) (A 3) (A 4) (A 5) (A 6) (A 7) (A 8) (A 9) (A 10) (A 11) (A 12) (A 13) (A 14) (A 15)
      (A 16) (A 17) (A 18) (A 19) (A 20) (A 21) (A 22) (A 23) (A 24) (A 25) (A 26) (A 27) (A 28) (A 29) (A 30) (A 31) = M
  pointwise [k0_pay1]
  rfl

end Cert.KernelIdeal.Gen

end
-- ==== Proof.Value.KernelArray.lean ====
/-
  The kernel's three result arrays after its run at the ideal instance, entry by entry, as functions of the eight
  arguments: row `n` of the batch works on the row of the pool that word `n` of the table of slots names.
-/
module

public import proofs.«01_k».proof.Proof.KernelIdeal.Frame
public import proofs.«01_k».proof.Proof.KernelIdeal.Slots
public import proofs.«01_k».proof.Proof.Value.HeadValue
public import Idealize.ShloMosaic.Lib.Pipeline.ValueKit
public import Idealize.ShloMosaic.Lib.Pipeline.Covers

@[expose] public section

set_option maxRecDepth 16384

noncomputable section

namespace Cert.KernelIdeal.Gen

open Idealize.ShloMosaic hiding ix1 ix2 ix3 ix4
open Idealize.ShloMosaic.TcCoe Idealize.SL.Sem
open Idealize.ShloMosaic.ValueIdx

/-! ## The blocks of the arguments -/

section
variable {F : FTy → Type} [FloatOps F]
variable (m : (ℓ : Loc nD τ sig) → Buf (Elt F) ℓ) (hO : Ok m) (c : Dev nD) (t : Fin (cfgM m hO).N)

/-- The row of the batch that grid point `t` computes. -/
abbrev rowOf (t : Fin grid0.N) : Fin 48 := grid0.coords t 0

theorem row_word (n : Fin 48) : (BitVec.ofNat 32 n.val).toNat = n.val := by
  rw [BitVec.toNat_ofNat, Nat.mod_eq_of_lt (by omega)]

theorem iblk_query (h : Fin 16) (r : Fin 128) :
    iblk m hO c 0 t (ix4 (0 : Fin 1) (0 : Fin 1) h r : S1x1x16x128.Idx) = m (c, Proc.tc.devRef main_arg0) (ix4 (rowOf t) (0 : Fin 1) h r : S48x1x16x128.Idx) := by
  unfold iblk
  show m (c, Proc.tc.devRef main_arg0) ((((cfgM m hO).win 0).blk t).view.emb (ix4 (0 : Fin 1) (0 : Fin 1) h r : S1x1x16x128.Idx)) = _
  refine congrArg _ (funext fun a => Fin.ext ?_)
  have e := row_word (rowOf t)
  match a with
  | ⟨0, _⟩ => show (BitVec.ofNat 32 (rowOf t).val).toNat * 1 + 1 * 0 = (rowOf t).val; omega
  | ⟨1, _⟩ => rfl
  | ⟨2, _⟩ => show 0 * 16 + 1 * h.val = h.val; omega
  | ⟨3, _⟩ => show 0 * 128 + 1 * r.val = r.val; omega

theorem iblk_key (h : Fin 16) (r : Fin 128) :
    iblk m hO c 1 t (ix4 (0 : Fin 1) (0 : Fin 1) h r : S1x1x16x128.Idx) = m (c, Proc.tc.devRef main_arg1) (ix4 (rowOf t) (0 : Fin 1) h r : S48x1x16x128.Idx) := by
  unfold iblk
  show m (c, Proc.tc.devRef main_arg1) ((((cfgM m hO).win 1).blk t).view.emb (ix4 (0 : Fin 1) (0 : Fin 1) h r : S1x1x16x128.Idx)) = _
  refine congrArg _ (funext fun a => Fin.ext ?_)
  have e := row_word (rowOf t)
  match a with
  | ⟨0, _⟩ => show (BitVec.ofNat 32 (rowOf t).val).toNat * 1 + 1 * 0 = (rowOf t).val; omega
  | ⟨1, _⟩ => rfl
  | ⟨2, _⟩ => show 0 * 16 + 1 * h.val = h.val; omega
  | ⟨3, _⟩ => show 0 * 128 + 1 * r.val = r.val; omega

theorem iblk_value (h : Fin 32) (d : Fin 256) :
    iblk m hO c 2 t (ix4 (0 : Fin 1) (0 : Fin 1) h d : S1x1x32x256.Idx) = m (c, Proc.tc.devRef main_arg2) (ix4 (rowOf t) (0 : Fin 1) h d : S48x1x32x256.Idx) := by
  unfold iblk
  show m (c, Proc.tc.devRef main_arg2) ((((cfgM m hO).win 2).blk t).view.emb (ix4 (0 : Fin 1) (0 : Fin 1) h d : S1x1x32x256.Idx)) = _
  refine congrArg _ (funext fun a => Fin.ext ?_)
  have e := row_word (rowOf t)
  match a with
  | ⟨0, _⟩ => show (BitVec.ofNat 32 (rowOf t).val).toNat * 1 + 1 * 0 = (rowOf t).val; omega
  | ⟨1, _⟩ => rfl
  | ⟨2, _⟩ => show 0 * 32 + 1 * h.val = h.val; omega
  | ⟨3, _⟩ => show 0 * 256 + 1 * d.val = d.val; omega

theorem iblk_decay (h : Fin 32) :
    iblk m hO c 3 t (ix3 (0 : Fin 1) (0 : Fin 1) h : S1x1x32.Idx) = m (c, Proc.tc.devRef main_arg3) (ix3 (rowOf t) (0 : Fin 1) h : S48x1x32.Idx) := by
  unfold iblk
  show m (c, Proc.tc.devRef main_arg3) ((((cfgM m hO).win 3).blk t).view.emb (ix3 (0 : Fin 1) (0 : Fin 1) h : S1x1x32.Idx)) = _
  refine congrArg _ (funext fun a => Fin.ext ?_)
  have e := row_word (rowOf t)
  match a with
  | ⟨0, _⟩ => show (BitVec.ofNat 32 (rowOf t).val).toNat * 1 + 1 * 0 = (rowOf t).val; omega
  | ⟨1, _⟩ => rfl
  | ⟨2, _⟩ => show 0 * 32 + 1 * h.val = h.val; omega

theorem iblk_step (h : Fin 32) :
    iblk m hO c 4 t (ix3 (0 : Fin 1) (0 : Fin 1) h : S1x1x32.Idx) = m (c, Proc.tc.devRef main_arg4) (ix3 (rowOf t) (0 : Fin 1) h : S48x1x32.Idx) := by
  unfold iblk
  show m (c, Proc.tc.devRef main_arg4) ((((cfgM m hO).win 4).blk t).view.emb (ix3 (0 : Fin 1) (0 : Fin 1) h : S1x1x32.Idx)) = _
  refine congrArg _ (funext fun a => Fin.ext ?_)
  have e := row_word (rowOf t)
  match a with
  | ⟨0, _⟩ => show (BitVec.ofNat 32 (rowOf t).val).toNat * 1 + 1 * 0 = (rowOf t).val; omega
  | ⟨1, _⟩ => rfl
  | ⟨2, _⟩ => show 0 * 32 + 1 * h.val = h.val; omega

theorem iblk_codes (b : Fin 60) (hb : (tbl m 0 (ix1 (rowOf t) : S48.Idx)).toNat = b.val) (h : Fin 32) (r : Fin 128) (d : Fin 256) :
    iblk m hO c 5 t (ix4 (0 : Fin 1) h r d : S1x32x128x256.Idx) = m (c, Proc.tc.devRef main_arg5) (ix4 b h r d : S60x32x128x256.Idx) := by
  unfold iblk
  show m (c, Proc.tc.devRef main_arg5) ((((cfgM m hO).win 5).blk t).view.emb (ix4 (0 : Fin 1) h r d : S1x32x128x256.Idx)) = _
  refine congrArg _ (funext fun a => Fin.ext ?_)
  have e : ∀ a, cc0_transform_5 k0_off1_inb numel1_S1 (tbl m) (grid0.coords t) a = (![b.val, 0, 0, 0] : Fin 4 → ℕ) a := by
    intro a; rw [slot_map5]; unfold slotAt; exact congrFun (congrArg (fun x : ℕ => (![x, 0, 0, 0] : Fin 4 → ℕ)) hb) a
  match a with
  | ⟨0, _⟩ => show cc0_transform_5 k0_off1_inb numel1_S1 (tbl m) (grid0.coords t) 0 * 1 + 1 * 0 = b.val; rw [e]; show b.val * 1 + 1 * 0 = b.val; omega
  | ⟨1, _⟩ => show cc0_transform_5 k0_off1_inb numel1_S1 (tbl m) (grid0.coords t) 1 * 32 + 1 * h.val = h.val; rw [e]; show 0 * 32 + 1 * h.val = h.val; omega
  | ⟨2, _⟩ => show cc0_transform_5 k0_off1_inb numel1_S1 (tbl m) (grid0.coords t) 2 * 128 + 1 * r.val = r.val; rw [e]; show 0 * 128 + 1 * r.val = r.val; omega
  | ⟨3, _⟩ => show cc0_transform_5 k0_off1_inb numel1_S1 (tbl m) (grid0.coords t) 3 * 256 + 1 * d.val = d.val; rw [e]; show 0 * 256 + 1 * d.val = d.val; omega

theorem iblk_scales (b : Fin 60) (hb : (tbl m 0 (ix1 (rowOf t) : S48.Idx)).toNat = b.val) (h : Fin 32) (r : Fin 128) :
    iblk m hO c 6 t (ix3 (0 : Fin 1) h r : S1x32x128.Idx) = m (c, Proc.tc.devRef main_arg6) (ix3 b h r : S60x32x128.Idx) := by
  unfold iblk
  show m (c, Proc.tc.devRef main_arg6) ((((cfgM m hO).win 6).blk t).view.emb (ix3 (0 : Fin 1) h r : S1x32x128.Idx)) = _
  refine congrArg _ (funext fun a => Fin.ext ?_)
  have e : ∀ a, cc0_transform_6 k0_off1_inb numel1_S1 (tbl m) (grid0.coords t) a = (![b.val, 0, 0] : Fin 3 → ℕ) a := by
    intro a; rw [slot_map6]; unfold slotAt; exact congrFun (congrArg (fun x : ℕ => (![x, 0, 0] : Fin 3 → ℕ)) hb) a
  match a with
  | ⟨0, _⟩ => show cc0_transform_6 k0_off1_inb numel1_S1 (tbl m) (grid0.coords t) 0 * 1 + 1 * 0 = b.val; rw [e]; show b.val * 1 + 1 * 0 = b.val; omega
  | ⟨1, _⟩ => show cc0_transform_6 k0_off1_inb numel1_S1 (tbl m) (grid0.coords t) 1 * 32 + 1 * h.val = h.val; rw [e]; show 0 * 32 + 1 * h.val = h.val; omega
  | ⟨2, _⟩ => show cc0_transform_6 k0_off1_inb numel1_S1 (tbl m) (grid0.coords t) 2 * 128 + 1 * r.val = r.val; rw [e]; show 0 * 128 + 1 * r.val = r.val; omega

/-! ## Where the blocks of the results lie -/

theorem emb_out (h : Fin 32) (d : Fin 256) :
    (((cfgM m hO).win 7).blk t).view.emb (ix3 (0 : Fin 1) h d : S1x32x256.Idx) = (ix3 (rowOf t) h d : S48x32x256.Idx) := by
  refine funext fun a => Fin.ext ?_
  have e := row_word (rowOf t)
  match a with
  | ⟨0, _⟩ => show (BitVec.ofNat 32 (rowOf t).val).toNat * 1 + 1 * 0 = (rowOf t).val; omega
  | ⟨1, _⟩ => show 0 * 32 + 1 * h.val = h.val; omega
  | ⟨2, _⟩ => show 0 * 256 + 1 * d.val = d.val; omega

theorem emb_code (h : Fin 32) (r : Fin 128) (d : Fin 256) :
    (((cfgM m hO).win 8).blk t).view.emb (ix4 (0 : Fin 1) h r d : S1x32x128x256.Idx) = (ix4 (rowOf t) h r d : S48x32x128x256.Idx) := by
  refine funext fun a => Fin.ext ?_
  have e := row_word (rowOf t)
  match a with
  | ⟨0, _⟩ => show (BitVec.ofNat 32 (rowOf t).val).toNat * 1 + 1 * 0 = (rowOf t).val; omega
  | ⟨1, _⟩ => show 0 * 32 + 1 * h.val = h.val; omega
  | ⟨2, _⟩ => show 0 * 128 + 1 * r.val = r.val; omega
  | ⟨3, _⟩ => show 0 * 256 + 1 * d.val = d.val; omega

theorem emb_scale (h : Fin 32) (r : Fin 128) :
    (((cfgM m hO).win 9).blk t).view.emb (ix3 (0 : Fin 1) h r : S1x32x128.Idx) = (ix3 (rowOf t) h r : S48x32x128.Idx) := by
  refine funext fun a => Fin.ext ?_
  have e := row_word (rowOf t)
  match a with
  | ⟨0, _⟩ => show (BitVec.ofNat 32 (rowOf t).val).toNat * 1 + 1 * 0 = (rowOf t).val; omega
  | ⟨1, _⟩ => show 0 * 32 + 1 * h.val = h.val; omega
  | ⟨2, _⟩ => show 0 * 128 + 1 * r.val = r.val; omega

/-- Every grid coordinate is some point's. -/
theorem exists_row (n : Fin 48) : ∃ t : Fin grid0.N, rowOf t = n := by
  obtain ⟨t, ht⟩ := grid0.coords_surjective fun a => match a with | ⟨0, _⟩ => n
  exact ⟨t, congrFun ht 0⟩

/-- The blocks of the first result make up its array. -/
theorem covers_out : ((cfgM m hO).win 7).Covers :=
  ((cfgM m hO).win 7).covers_of_index_surj rfl (fun a => by
      match a with
      | ⟨0, _⟩ => exact (by decide : 0 < 1)
      | ⟨1, _⟩ => exact (by decide : 0 < 32)
      | ⟨2, _⟩ => exact (by decide : 0 < 256)) fun β => by
    have hn : ∀ a : Fin 3, ((cfgM m hO).win 7).nblk a = (![48, 1, 1] : Fin 3 → ℕ) a := fun a => by
      match a with
      | ⟨0, _⟩ => exact (by decide : (48 + 1 - 1) / 1 = 48)
      | ⟨1, _⟩ => exact (by decide : (32 + 32 - 1) / 32 = 1)
      | ⟨2, _⟩ => exact (by decide : (256 + 256 - 1) / 256 = 1)
    have hb : ∀ a : Fin 3, (β a).val < (![48, 1, 1] : Fin 3 → ℕ) a := fun a => lt_of_lt_of_eq (β a).isLt (hn a)
    obtain ⟨t, ht⟩ := exists_row ⟨(β (0 : Fin 3)).val, hb 0⟩
    refine ⟨t, fun a => ?_⟩
    match a with
    | ⟨0, _⟩ => exact (row_word (rowOf t)).trans (congrArg Fin.val ht)
    | ⟨1, h⟩ => exact (Nat.lt_one_iff.1 (hb 1)).symm
    | ⟨2, h⟩ => exact (Nat.lt_one_iff.1 (hb 2)).symm

/-- The blocks of the second result make up its array. -/
theorem covers_code : ((cfgM m hO).win 8).Covers :=
  ((cfgM m hO).win 8).covers_of_index_surj rfl (fun a => by
      match a with
      | ⟨0, _⟩ => exact (by decide : 0 < 1)
      | ⟨1, _⟩ => exact (by decide : 0 < 32)
      | ⟨2, _⟩ => exact (by decide : 0 < 128)
      | ⟨3, _⟩ => exact (by decide : 0 < 256)) fun β => by
    have hn : ∀ a : Fin 4, ((cfgM m hO).win 8).nblk a = (![48, 1, 1, 1] : Fin 4 → ℕ) a := fun a => by
      match a with
      | ⟨0, _⟩ => exact (by decide : (48 + 1 - 1) / 1 = 48)
      | ⟨1, _⟩ => exact (by decide : (32 + 32 - 1) / 32 = 1)
      | ⟨2, _⟩ => exact (by decide : (128 + 128 - 1) / 128 = 1)
      | ⟨3, _⟩ => exact (by decide : (256 + 256 - 1) / 256 = 1)
    have hb : ∀ a : Fin 4, (β a).val < (![48, 1, 1, 1] : Fin 4 → ℕ) a := fun a => lt_of_lt_of_eq (β a).isLt (hn a)
    obtain ⟨t, ht⟩ := exists_row ⟨(β (0 : Fin 4)).val, hb 0⟩
    refine ⟨t, fun a => ?_⟩
    match a with
    | ⟨0, _⟩ => exact (row_word (rowOf t)).trans (congrArg Fin.val ht)
    | ⟨1, h⟩ => exact (Nat.lt_one_iff.1 (hb 1)).symm
    | ⟨2, h⟩ => exact (Nat.lt_one_iff.1 (hb 2)).symm
    | ⟨3, h⟩ => exact (Nat.lt_one_iff.1 (hb 3)).symm

/-- The blocks of the third result make up its array. -/
theorem covers_scale : ((cfgM m hO).win 9).Covers :=
  ((cfgM m hO).win 9).covers_of_index_surj rfl (fun a => by
      match a with
      | ⟨0, _⟩ => exact (by decide : 0 < 1)
      | ⟨1, _⟩ => exact (by decide : 0 < 32)
      | ⟨2, _⟩ => exact (by decide : 0 < 128)) fun β => by
    have hn : ∀ a : Fin 3, ((cfgM m hO).win 9).nblk a = (![48, 1, 1] : Fin 3 → ℕ) a := fun a => by
      match a with
      | ⟨0, _⟩ => exact (by decide : (48 + 1 - 1) / 1 = 48)
      | ⟨1, _⟩ => exact (by decide : (32 + 32 - 1) / 32 = 1)
      | ⟨2, _⟩ => exact (by decide : (128 + 128 - 1) / 128 = 1)
    have hb : ∀ a : Fin 3, (β a).val < (![48, 1, 1] : Fin 3 → ℕ) a := fun a => lt_of_lt_of_eq (β a).isLt (hn a)
    obtain ⟨t, ht⟩ := exists_row ⟨(β (0 : Fin 3)).val, hb 0⟩
    refine ⟨t, fun a => ?_⟩
    match a with
    | ⟨0, _⟩ => exact (row_word (rowOf t)).trans (congrArg Fin.val ht)
    | ⟨1, h⟩ => exact (Nat.lt_one_iff.1 (hb 1)).symm
    | ⟨2, h⟩ => exact (Nat.lt_one_iff.1 (hb 2)).symm

end

/-! ## The entries of a block -/

theorem exists_out (y : S1x32x256.Idx) : ∃ (h : Fin 32) (d : Fin 256), y = (ix3 (0 : Fin 1) h d : S1x32x256.Idx) :=
  ⟨y 1, y 2, funext fun a => match a with | ⟨0, _⟩ => Subsingleton.elim (α := Fin 1) _ _ | ⟨1, _⟩ => rfl | ⟨2, _⟩ => rfl⟩
theorem exists_code (y : S1x32x128x256.Idx) : ∃ (h : Fin 32) (r : Fin 128) (d : Fin 256), y = (ix4 (0 : Fin 1) h r d : S1x32x128x256.Idx) :=
  ⟨y 1, y 2, y 3, funext fun a => match a with | ⟨0, _⟩ => Subsingleton.elim (α := Fin 1) _ _ | ⟨1, _⟩ => rfl | ⟨2, _⟩ => rfl | ⟨3, _⟩ => rfl⟩
theorem exists_scale (y : S1x32x128.Idx) : ∃ (h : Fin 32) (r : Fin 128), y = (ix3 (0 : Fin 1) h r : S1x32x128.Idx) :=
  ⟨y 1, y 2, funext fun a => match a with | ⟨0, _⟩ => Subsingleton.elim (α := Fin 1) _ _ | ⟨1, _⟩ => rfl | ⟨2, _⟩ => rfl⟩

section
variable (Q K : Vec Ideal S1x1x16x128 .bf16) (V : Vec Ideal S1x1x32x256 .bf16) (G B : Vec Ideal S1x1x32 .f32)
  (C : Vec Ideal S1x32x128x256 .fp8e4m3) (S : Vec Ideal S1x32x128 .f32) (h : Fin 32)

theorem ld_code (r : Fin 128) (d : Fin 256) : View.ld C (headRect h) (ix4 (0 : Fin 1) (0 : Fin 1) r d) = C (ix4 (0 : Fin 1) h r d) := by
  show C ((headRect h).emb (ix4 (0 : Fin 1) (0 : Fin 1) r d)) = _
  refine congrArg C (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

theorem ld_value (d : Fin 256) : View.ld V (rowRect h) (ix4 (0 : Fin 1) (0 : Fin 1) (0 : Fin 1) d) = V (ix4 (0 : Fin 1) (0 : Fin 1) h d) := by
  show V ((rowRect h).emb (ix4 (0 : Fin 1) (0 : Fin 1) (0 : Fin 1) d)) = _
  refine congrArg V (funext fun a => Fin.ext ?_)
  match a with
  | ⟨0, _⟩ => rfl
  | ⟨1, _⟩ => rfl
  | ⟨2, _⟩ => rfl
  | ⟨3, _⟩ => show 0 + 1 * d.val = d.val; omega

theorem headCode_ld : headCode (View.ld C (headRect h)) = fun r d => C (ix4 (0 : Fin 1) h r d) :=
  funext fun r => funext fun d => ld_code C h r d

theorem headValue_ld : headValue (View.ld V (rowRect h)) = fun d => V (ix4 (0 : Fin 1) (0 : Fin 1) h d) :=
  funext fun d => ld_value V h d

theorem outBlock_entry (d : Fin 256) : outBlock Q K V G B C S (ix3 (0 : Fin 1) h d)
    = Spec.out (groupRow Q h) (groupRow K h) (headScale S h) (fun r d => C (ix4 (0 : Fin 1) h r d)) (fun d => V (ix4 (0 : Fin 1) (0 : Fin 1) h d))
        (G (ix3 0 0 h)) (B (ix3 0 0 h)) d := by
  rw [← headCode_ld, ← headValue_ld]
  exact out_entry Q K G B S h _ _ d

/-- The new state's rows. -/
theorem block_state (r : Fin 128) (d : Fin 256) : headState Q K G B S h (View.ld C (headRect h)) (View.ld V (rowRect h)) (ix2 r d)
    = Spec.state (groupRow K h) (headScale S h) (fun r d => C (ix4 (0 : Fin 1) h r d)) (fun d => V (ix4 (0 : Fin 1) (0 : Fin 1) h d))
        (G (ix3 0 0 h)) (B (ix3 0 0 h)) r d := by
  rw [← headCode_ld, ← headValue_ld]
  exact state_entry Q K G B S h _ _ r d

theorem block_amax (r : Fin 128) : stateAmax (headState Q K G B S h (View.ld C (headRect h)) (View.ld V (rowRect h))) (ix2 r 0)
    = Spec.amax (Spec.state (groupRow K h) (headScale S h) (fun r d => C (ix4 (0 : Fin 1) h r d)) (fun d => V (ix4 (0 : Fin 1) (0 : Fin 1) h d))
        (G (ix3 0 0 h)) (B (ix3 0 0 h)) r) := by
  refine (amax_entry _ r).trans ?_
  exact congrArg Spec.amax (funext fun d => block_state Q K V G B C S h r d)

theorem codeBlock_entry (r : Fin 128) (d : Fin 256) : codeBlock Q K V G B C S (ix4 (0 : Fin 1) h r d)
    = Spec.code (Spec.state (groupRow K h) (headScale S h) (fun r d => C (ix4 (0 : Fin 1) h r d)) (fun d => V (ix4 (0 : Fin 1) (0 : Fin 1) h d))
        (G (ix3 0 0 h)) (B (ix3 0 0 h)) r d)
      (Spec.amax (Spec.state (groupRow K h) (headScale S h) (fun r d => C (ix4 (0 : Fin 1) h r d)) (fun d => V (ix4 (0 : Fin 1) (0 : Fin 1) h d))
        (G (ix3 0 0 h)) (B (ix3 0 0 h)) r)) := by
  rw [← block_state, ← block_amax]
  exact codes_entry _ r d

theorem scaleBlock_entry (r : Fin 128) : scaleBlock Q K V G B C S (ix3 (0 : Fin 1) h r)
    = Spec.scale (Spec.amax (Spec.state (groupRow K h) (headScale S h) (fun r d => C (ix4 (0 : Fin 1) h r d))
        (fun d => V (ix4 (0 : Fin 1) (0 : Fin 1) h d)) (G (ix3 0 0 h)) (B (ix3 0 0 h)) r)) := by
  rw [← block_amax]
  exact scales_entry _ h r

end

/-! ## The arrays -/

section
variable (m : (ℓ : Loc nD τ sig) → Buf (Elt Ideal) ℓ)

/-- The query row of a head, and the like: what the arguments hold for row `n` of the batch, head `h`, row `b` of the pool. -/
abbrev argQuery (n : Fin 48) (h : Fin 32) : Fin 128 → EReal := fun i => m ((0 : Dev nD), Proc.tc.devRef main_arg0) (ix4 n (0 : Fin 1) (group h) i : S48x1x16x128.Idx)
abbrev argKey (n : Fin 48) (h : Fin 32) : Fin 128 → EReal := fun i => m ((0 : Dev nD), Proc.tc.devRef main_arg1) (ix4 n (0 : Fin 1) (group h) i : S48x1x16x128.Idx)
abbrev argValue (n : Fin 48) (h : Fin 32) : Fin 256 → EReal := fun d => m ((0 : Dev nD), Proc.tc.devRef main_arg2) (ix4 n (0 : Fin 1) h d : S48x1x32x256.Idx)
abbrev argDecay (n : Fin 48) (h : Fin 32) : EReal := m ((0 : Dev nD), Proc.tc.devRef main_arg3) (ix3 n (0 : Fin 1) h : S48x1x32.Idx)
abbrev argStep (n : Fin 48) (h : Fin 32) : EReal := m ((0 : Dev nD), Proc.tc.devRef main_arg4) (ix3 n (0 : Fin 1) h : S48x1x32.Idx)
abbrev argCode (b : Fin 60) (h : Fin 32) : Fin 128 → Fin 256 → EReal := fun r d => m ((0 : Dev nD), Proc.tc.devRef main_arg5) (ix4 b h r d : S60x32x128x256.Idx)
abbrev argScale (b : Fin 60) (h : Fin 32) : Fin 128 → EReal := fun r => m ((0 : Dev nD), Proc.tc.devRef main_arg6) (ix3 b h r : S60x32x128.Idx)

/-- The new state of row `n`, head `h`. -/
abbrev argState (n : Fin 48) (b : Fin 60) (h : Fin 32) (r : Fin 128) : Fin 256 → EReal :=
  Spec.state (argKey m n h) (argScale m b h) (argCode m b h) (argValue m n h) (argDecay m n h) (argStep m n h) r

/-- The first result, for the pool's row `slot n` at row `n`. -/
def resultOut (slot : Fin 48 → Fin 60) : S48x32x256.Idx → EReal := fun y =>
  Spec.out (argQuery m (y 0) (y 1)) (argKey m (y 0) (y 1)) (argScale m (slot (y 0)) (y 1)) (argCode m (slot (y 0)) (y 1)) (argValue m (y 0) (y 1))
    (argDecay m (y 0) (y 1)) (argStep m (y 0) (y 1)) (y 2)
/-- The second result. -/
def resultCode (slot : Fin 48 → Fin 60) : S48x32x128x256.Idx → EReal := fun y =>
  Spec.code (argState m (y 0) (slot (y 0)) (y 1) (y 2) (y 3)) (Spec.amax (argState m (y 0) (slot (y 0)) (y 1) (y 2)))
/-- The third result. -/
def resultScale (slot : Fin 48 → Fin 60) : S48x32x128.Idx → EReal := fun y =>
  Spec.scale (Spec.amax (argState m (y 0) (slot (y 0)) (y 1) (y 2)))

variable (hO : Ok m) (slot : Fin 48 → Fin 60) (hs : ∀ n, (tbl m 0 (ix1 n : S48.Idx)).toNat = (slot n).val)
include hs

theorem array_out (c : Dev nD) : (dats m hO 0 c).arrAt 7 (cfgM m hO).N = resultOut m slot := by
  obtain rfl : c = 0 := Subsingleton.elim _ _
  refine (dats m hO 0 0).arrAt_eq_of_covers 7 _ (covers_out m hO) fun t hf y => ?_
  obtain ⟨h, d, rfl⟩ := exists_out y
  rw [emb_out]
  show (dats m hO 0 0).after 7 t (ix3 (0 : Fin 1) h d : S1x32x256.Idx) = _
  rw [after0_7]
  refine (outBlock_entry _ _ _ _ _ _ _ h d).trans ?_
  have eQ : groupRow (iblk m hO 0 0 t) h = argQuery m (rowOf t) h := funext fun i => iblk_query m hO 0 t (group h) i
  have eK : groupRow (iblk m hO 0 1 t) h = argKey m (rowOf t) h := funext fun i => iblk_key m hO 0 t (group h) i
  have eV : (fun d : Fin 256 => iblk m hO 0 2 t (ix4 (0 : Fin 1) (0 : Fin 1) h d : S1x1x32x256.Idx)) = argValue m (rowOf t) h := funext fun d => iblk_value m hO 0 t h d
  have eG := iblk_decay m hO 0 t h
  have eB := iblk_step m hO 0 t h
  have eC : (fun (r : Fin 128) (d : Fin 256) => iblk m hO 0 5 t (ix4 (0 : Fin 1) h r d : S1x32x128x256.Idx)) = argCode m (slot (rowOf t)) h :=
    funext fun r => funext fun d => iblk_codes m hO 0 t _ (hs _) h r d
  have eS : headScale (iblk m hO 0 6 t) h = argScale m (slot (rowOf t)) h := funext fun r => iblk_scales m hO 0 t _ (hs _) h r
  show Spec.out (groupRow (iblk m hO 0 0 t) h) (groupRow (iblk m hO 0 1 t) h) (headScale (iblk m hO 0 6 t) h)
    (fun (r : Fin 128) (d : Fin 256) => iblk m hO 0 5 t (ix4 (0 : Fin 1) h r d : S1x32x128x256.Idx)) (fun d : Fin 256 => iblk m hO 0 2 t (ix4 (0 : Fin 1) (0 : Fin 1) h d : S1x1x32x256.Idx))
    (iblk m hO 0 3 t (ix3 (0 : Fin 1) (0 : Fin 1) h : S1x1x32.Idx)) (iblk m hO 0 4 t (ix3 (0 : Fin 1) (0 : Fin 1) h : S1x1x32.Idx)) d = _
  rw [eQ, eK, eV, eG, eB, eC, eS]
  rfl

/-- The new state of a point's blocks. -/
theorem point_state (t : Fin (cfgM m hO).N) (h : Fin 32) :
    Spec.state (groupRow (iblk m hO 0 1 t) h) (headScale (iblk m hO 0 6 t) h)
      (fun (r : Fin 128) (d : Fin 256) => iblk m hO 0 5 t (ix4 (0 : Fin 1) h r d : S1x32x128x256.Idx)) (fun d : Fin 256 => iblk m hO 0 2 t (ix4 (0 : Fin 1) (0 : Fin 1) h d : S1x1x32x256.Idx))
      (iblk m hO 0 3 t (ix3 (0 : Fin 1) (0 : Fin 1) h : S1x1x32.Idx)) (iblk m hO 0 4 t (ix3 (0 : Fin 1) (0 : Fin 1) h : S1x1x32.Idx))
      = argState m (rowOf t) (slot (rowOf t)) h := by
  have eK : groupRow (iblk m hO 0 1 t) h = argKey m (rowOf t) h := funext fun i => iblk_key m hO 0 t (group h) i
  have eV : (fun d : Fin 256 => iblk m hO 0 2 t (ix4 (0 : Fin 1) (0 : Fin 1) h d : S1x1x32x256.Idx)) = argValue m (rowOf t) h := funext fun d => iblk_value m hO 0 t h d
  have eG := iblk_decay m hO 0 t h
  have eB := iblk_step m hO 0 t h
  have eC : (fun (r : Fin 128) (d : Fin 256) => iblk m hO 0 5 t (ix4 (0 : Fin 1) h r d : S1x32x128x256.Idx)) = argCode m (slot (rowOf t)) h :=
    funext fun r => funext fun d => iblk_codes m hO 0 t _ (hs _) h r d
  have eS : headScale (iblk m hO 0 6 t) h = argScale m (slot (rowOf t)) h := funext fun r => iblk_scales m hO 0 t _ (hs _) h r
  rw [eK, eV, eG, eB, eC, eS]

theorem array_code (c : Dev nD) : (dats m hO 0 c).arrAt 8 (cfgM m hO).N = resultCode m slot := by
  obtain rfl : c = 0 := Subsingleton.elim _ _
  refine (dats m hO 0 0).arrAt_eq_of_covers 8 _ (covers_code m hO) fun t hf y => ?_
  obtain ⟨h, r, d, rfl⟩ := exists_code y
  rw [emb_code]
  show (dats m hO 0 0).after 8 t (ix4 (0 : Fin 1) h r d : S1x32x128x256.Idx) = _
  rw [after0_8]
  exact (codeBlock_entry _ _ _ _ _ _ _ h r d).trans (congrArg (fun s : Fin 128 → Fin 256 → EReal => Spec.code (s r d) (Spec.amax (s r))) (point_state m hO slot hs t h))

theorem array_scale (c : Dev nD) : (dats m hO 0 c).arrAt 9 (cfgM m hO).N = resultScale m slot := by
  obtain rfl : c = 0 := Subsingleton.elim _ _
  refine (dats m hO 0 0).arrAt_eq_of_covers 9 _ (covers_scale m hO) fun t hf y => ?_
  obtain ⟨h, r, rfl⟩ := exists_scale y
  rw [emb_scale]
  show (dats m hO 0 0).after 9 t (ix3 (0 : Fin 1) h r : S1x32x128.Idx) = _
  rw [after0_9]
  exact (scaleBlock_entry _ _ _ _ _ _ _ h r).trans (congrArg (fun s : Fin 128 → Fin 256 → EReal => Spec.scale (Spec.amax (s r))) (point_state m hO slot hs t h))

end

end Cert.KernelIdeal.Gen

end
-- ==== Proof.Value.RefBlock.lean ====
/-
  What the reference's one region computes at the ideal instance, entry by entry, from its eight arrays: where they hold
  the key, the query, the value, the decay, the step size, their product, the codes and the scales of a head, the three
  results hold what `Cert.Spec` says.
-/
module

public import proofs.«01_k».proof.Proof.Gen.ReferenceIdeal.Frame
public import proofs.«01_k».proof.Proof.Value.Spec
public import Idealize.ShloMosaic.Lib.Pointwise
public import Idealize.ShloMosaic.Lib.IdealHost

@[expose] public section

set_option maxRecDepth 16384

noncomputable section

namespace Cert.ReferenceIdeal.Gen

open Idealize.ShloMosaic Idealize.SL.Sem

/-! ## The quantiser -/

theorem max_row (src : FVec Ideal S48x32x128x256 .f32) (n : Fin 48) (h : Fin 32) (r : Fin 128) :
    multiReduction .maximumf [3] S48x32x128 src 0xFF800000#32 reduces_S48x32x128x256_S48x32x128 (.inl rfl) rfl (ix3 n h r)
      = Finset.univ.fold max (Ideal.ofBits .f32 0xFF800000#32) fun x : Fin 256 => src (ix4 n h r x) := by
  pointwise

theorem min_col (src : FVec Ideal S253x48x32x128 .f32) (n : Fin 48) (h : Fin 32) (r : Fin 128) :
    multiReduction .minimumf [0] S48x32x128 src 0x7F800000#32 reduces_S253x48x32x128_S48x32x128 (.inl rfl) rfl (ix3 n h r)
      = Finset.univ.fold min (Ideal.ofBits .f32 0x7F800000#32) fun x : Fin 253 => src (ix4 x n h r) := by
  pointwise

/-- The powers of two among which the scale is chosen. -/
def powers : FVec Ideal S253x1x1x1 .f32 :=
  exp2 (sitofp .f32 (subi (iota .tc S253x1x1x1 32 [0] iota_S253x1x1x1_d0_w32) (broadcast S253x1x1x1 126#32)))

/-- The powers above a magnitude over 448, and the largest in the place of the others. -/
def candidates (M : FVec Ideal S48x32x128 .f32) : FVec Ideal S253x48x32x128 .f32 :=
  select
    (cmpf .ogt (broadcastTo S253x48x32x128 powers broadcasts_S253x1x1x1_S253x48x32x128)
      (broadcastTo S253x48x32x128
        (shapeCast S1x48x32x128 (mulf M (broadcast S48x32x128 (Scalar.ofBits .f32 0x3B124925#32 : Ideal .f32))) shapeCasts_S48x32x128_S1x48x32x128)
        broadcasts_S1x48x32x128_S253x48x32x128))
    (broadcastTo S253x48x32x128 (shapeCast S253x1x1x1 powers shapeCasts_S253x1x1x1_S253x1x1x1) broadcasts_S253x1x1x1_S253x48x32x128)
    (broadcast S253x48x32x128 (Scalar.ofBits .f32 0x7E800000#32 : Ideal .f32))

/-- The scales of rows whose largest magnitudes are `M`. -/
def scalesOf (M : FVec Ideal S48x32x128 .f32) : FVec Ideal S48x32x128 .f32 :=
  select (cmpf .oeq M (broadcast S48x32x128 (Scalar.ofBits .f32 0x00000000#32 : Ideal .f32)))
    (broadcast S48x32x128 (Scalar.ofBits .f32 0x3F800000#32 : Ideal .f32))
    (multiReduction .minimumf [0] S48x32x128 (candidates M) 0x7F800000#32 reduces_S253x48x32x128_S48x32x128 (.inl rfl) rfl)

theorem candidates_entry (M : FVec Ideal S48x32x128 .f32) (j : Fin 253) (n : Fin 48) (h : Fin 32) (r : Fin 128) :
    candidates M (ix4 j n h r)
      = if M (ix3 n h r) * Ideal.ofBits .f32 0x3B124925#32 < Spec.power j then Spec.power j else Ideal.ofBits .f32 0x7E800000#32 := by
  pointwise [candidates, powers]
  rfl

theorem scalesOf_entry (M : FVec Ideal S48x32x128 .f32) (n : Fin 48) (h : Fin 32) (r : Fin 128) :
    scalesOf M (ix3 n h r) = Spec.scale (M (ix3 n h r)) := by
  have e := (min_col (candidates M) n h r).trans (Finset.fold_congr fun j _ => candidates_entry M j n h r)
  unfold scalesOf Spec.scale
  generalize (multiReduction .minimumf [0] S48x32x128 (candidates M) 0x7F800000#32 reduces_S253x48x32x128_S48x32x128 (.inl rfl) rfl) = N at e ⊢
  rw [← e]
  pointwise

/-! ## The three results -/

section
variable (x0 x1 : Vec Ideal S48x32x128 .bf16) (x2 : Vec Ideal S48x32x256 .bf16) (x3 x4 x5 : Vec Ideal S48x32x1 .f32)
  (x6 : Vec Ideal S48x32x128x256 .fp8e4m3) (x7 : Vec Ideal S48x32x128 .f32)

/-- The new state. -/
def newState : FVec Ideal S48x32x128x256 .f32 :=
  k0_pay12 (k0_pay2 x6 x7) (k0_pay3 x0) (k0_pay4 x3) (k0_pay5 x4) (k0_pay7 x6 x7 x0) (k0_pay9 x2)

theorem zeros3 : (![0, 0, 0] : Fin 3 → ℕ) = fun _ => 0 := by
  funext a; fin_cases a <;> rfl
theorem zeros4 : (![0, 0, 0, 0] : Fin 4 → ℕ) = fun _ => 0 := by
  funext a; fin_cases a <;> rfl

theorem ld0 (x : Vec Ideal S48x32x128x256 .fp8e4m3) : View.ld x r0_0 = x := View.ld_unit_zero zeros4 _ x
theorem ld1 {e : EltTy} (x : Vec Ideal S48x32x128 e) : View.ld x r0_1 = x := View.ld_unit_zero zeros3 _ x
theorem ld2 {e : EltTy} (x : Vec Ideal S48x32x1 e) : View.ld x r0_2 = x := View.ld_unit_zero zeros3 _ x
theorem ld3 {e : EltTy} (x : Vec Ideal S48x32x256 e) : View.ld x r0_3 = x := View.ld_unit_zero zeros3 _ x

/-- The largest magnitudes of the new state's rows. -/
def newAmax : FVec Ideal S48x32x128 .f32 :=
  multiReduction .maximumf [3] S48x32x128 (absf (newState x0 x2 x3 x4 x6 x7)) 0xFF800000#32 reduces_S48x32x128x256_S48x32x128 (.inl rfl) rfl

theorem out10_eq : out0_10 x0 x1 x2 x3 x4 x5 x6 x7 = scalesOf (newAmax x0 x2 x3 x4 x6 x7) := by
  unfold_out out0_10
  rw [View.canon_unit_zero zeros3]
  simp only [ld0, ld1, ld2, ld3]
  rfl

theorem out9_eq : out0_9 x0 x1 x2 x3 x4 x5 x6 x7
    = k0_pay1 (newState x0 x2 x3 x4 x6 x7) (scalesOf (newAmax x0 x2 x3 x4 x6 x7)) k0_pay14 := by
  unfold_out out0_9
  rw [View.canon_unit_zero zeros4]
  simp only [ld0, ld1, ld2, ld3]
  rfl

theorem code_entry (s : FVec Ideal S48x32x128x256 .f32) (M : FVec Ideal S48x32x128 .f32) (n : Fin 48) (h : Fin 32) (r : Fin 128) (d : Fin 256) :
    k0_pay1 s (scalesOf M) k0_pay14 (ix4 n h r d) = Spec.code (s (ix4 n h r d)) (M (ix3 n h r)) := by
  rw [Spec.code, ← scalesOf_entry]
  pointwise [k0_pay1, k0_pay14]

end

/-- Row `n`, head `h` of the eight arrays hold these. -/
structure Holds (x0 x1 : Vec Ideal S48x32x128 .bf16) (x2 : Vec Ideal S48x32x256 .bf16) (x3 x4 x5 : Vec Ideal S48x32x1 .f32)
    (x6 : Vec Ideal S48x32x128x256 .fp8e4m3) (x7 : Vec Ideal S48x32x128 .f32) (n : Fin 48) (h : Fin 32)
    (q k s : Fin 128 → EReal) (c : Fin 128 → Fin 256 → EReal) (v : Fin 256 → EReal) (g b : EReal) : Prop where
  key (r : Fin 128) : x0 (ix3 n h r) = Spec.key k r
  query (r : Fin 128) : x1 (ix3 n h r) = Spec.query q r
  value (d : Fin 256) : x2 (ix3 n h d) = v d
  decay : x3 (ix3 n h 0) = Ideal.exp g
  step : x4 (ix3 n h 0) = b
  product : x5 (ix3 n h 0) = ∑ r, Spec.query q r * Spec.key k r
  codes (r : Fin 128) (d : Fin 256) : x6 (ix4 n h r d) = c r d
  scales (r : Fin 128) : x7 (ix3 n h r) = s r

section
variable {x0 x1 : Vec Ideal S48x32x128 .bf16} {x2 : Vec Ideal S48x32x256 .bf16} {x3 x4 x5 : Vec Ideal S48x32x1 .f32}
  {x6 : Vec Ideal S48x32x128x256 .fp8e4m3} {x7 : Vec Ideal S48x32x128 .f32} {n : Fin 48} {h : Fin 32}
  {q k s : Fin 128 → EReal} {c : Fin 128 → Fin 256 → EReal} {v : Fin 256 → EReal} {g b : EReal}
  (H : Holds x0 x1 x2 x3 x4 x5 x6 x7 n h q k s c v g b)
include H

theorem Holds.state (r : Fin 128) (d : Fin 256) : newState x0 x2 x3 x4 x6 x7 (ix4 n h r d) = Spec.state k s c v g b r d := by
  pointwise [newState, k0_pay12, k0_pay10, k0_pay2, k0_pay3, k0_pay4, k0_pay5, k0_pay7, k0_pay9]
  simp only [H.key, H.value, H.decay, H.step, H.codes, H.scales]
  rfl

theorem Holds.amax (r : Fin 128) : newAmax x0 x2 x3 x4 x6 x7 (ix3 n h r) = Spec.amax (Spec.state k s c v g b r) := by
  refine (max_row _ n h r).trans (Finset.fold_congr fun d _ => ?_)
  rw [← H.state r d]
  rfl

/-- The first result. -/
theorem Holds.out (d : Fin 256) : out0_8 x0 x1 x2 x3 x4 x5 x6 x7 (ix3 n h d) = Spec.out q k s c v g b d := by
  unfold_out out0_8
  rw [View.canon_unit_zero zeros3]
  pointwise [k0_pay11, k0_pay10, k0_pay4, k0_pay5, k0_pay6, k0_pay7, k0_pay8, k0_pay9, k0_pay2, k0_pay3]
  simp only [H.key, H.query, H.value, H.decay, H.step, H.product, H.codes, H.scales]
  rfl

/-- The second result. -/
theorem Holds.code (r : Fin 128) (d : Fin 256) : out0_9 x0 x1 x2 x3 x4 x5 x6 x7 (ix4 n h r d)
    = Spec.code (Spec.state k s c v g b r d) (Spec.amax (Spec.state k s c v g b r)) := by
  rw [out9_eq, code_entry, H.state, H.amax]

/-- The third result. -/
theorem Holds.scale (r : Fin 128) : out0_10 x0 x1 x2 x3 x4 x5 x6 x7 (ix3 n h r) = Spec.scale (Spec.amax (Spec.state k s c v g b r)) := by
  rw [out10_eq, scalesOf_entry, H.amax]

end

end Cert.ReferenceIdeal.Gen

end
-- ==== Proof.Value.Gather.lean ====
/-
  The two gathers of the state's rows by the table of slots, read at an index: where a word of the table is a row of the
  pool, the gathered row is that row.
-/
module

public import proofs.«01_k».proof.Proof.Gen.ReferenceIdeal.Frame
public import Idealize.ShloMosaic.Lib.Pointwise
public import Idealize.ShloMosaic.Lib.ValueIdxCore

@[expose] public section

noncomputable section

namespace Cert.ReferenceIdeal.Gen

open Idealize.ShloMosaic Idealize.SL.Sem

abbrev codesDims := gather_S60x32x128x256_S48x1_S48x32x128x256_123_0_n_n_0_1_132128256
abbrev scalesDims := gather_S60x32x128_S48x1_S48x32x128_12_0_n_n_0_1_132128

/-- A word that is a row of the pool, read signed and held between the pool's ends. -/
theorem clamp_word (w : BitVec 32) (b : Fin 60) (hb : w.toNat = b.val) : min w.toInt.toNat (60 - 1) = b.val := by
  have := b.isLt
  rw [BitVec.toInt_eq_toNat_of_lt (by omega)]
  simp
  omega

theorem gather_codes {α : Type} (x : S60x32x128x256.Idx → α) (idx : IVec S48x1 32) (n : Fin 48) (h : Fin 32) (r : Fin 128) (d : Fin 256)
    (b : Fin 60) (hb : (idx (ix2 n 0)).toNat = b.val) : Host.gather codesDims x idx (ix4 n h r d) = x (ix4 b h r d) := by
  unfold Host.gather
  refine congrArg x (funext fun a => Fin.ext ?_)
  show codesDims.start (ix4 n h r d) idx a + codesDims.batchCoord (ix4 n h r d) a + codesDims.offCoord (ix4 n h r d) a = _
  rw [GatherDims.batchCoord_eq_zero _ _ _ List.not_mem_nil, Nat.add_zero]
  have kept : ∀ a : Fin 4, a ≠ 0 → codesDims.start (ix4 n h r d) idx a = 0 := fun a ha => by
    unfold GatherDims.start
    exact dif_neg fun hm => ha (List.mem_singleton.mp hm)
  match a with
  | ⟨0, _⟩ =>
    rw [GatherDims.offCoord_eq_zero _ _ _ (fun hm => ((GatherDims.mem_sKept _ _).mp hm).1 (List.mem_singleton.mpr rfl)), Nat.add_zero]
    have hm : (0 : Fin 4) ∈ codesDims.startIndexMap := List.mem_singleton.mpr rfl
    unfold GatherDims.start
    refine (dif_pos hm).trans ?_
    have hsi : codesDims.siIdx (ix4 n h r d) ⟨List.idxOf (0 : Fin 4) codesDims.startIndexMap, List.idxOf_lt_length_iff.2 hm⟩ = ix2 n 0 := by
      funext c; refine Fin.ext ?_
      match c with
      | ⟨0, _⟩ => rfl
      | ⟨1, _⟩ => rfl
    exact (congrArg (fun i => min (idx i).toInt.toNat (60 - 1)) hsi).trans (clamp_word _ b hb)
  | ⟨1, _⟩ => rw [kept _ (Fin.ne_of_val_ne (Nat.succ_ne_zero _))]; exact Nat.zero_add _
  | ⟨2, _⟩ => rw [kept _ (Fin.ne_of_val_ne (Nat.succ_ne_zero _))]; exact Nat.zero_add _
  | ⟨3, _⟩ => rw [kept _ (Fin.ne_of_val_ne (Nat.succ_ne_zero _))]; exact Nat.zero_add _

theorem gather_scales {α : Type} (x : S60x32x128.Idx → α) (idx : IVec S48x1 32) (n : Fin 48) (h : Fin 32) (r : Fin 128)
    (b : Fin 60) (hb : (idx (ix2 n 0)).toNat = b.val) : Host.gather scalesDims x idx (ix3 n h r) = x (ix3 b h r) := by
  unfold Host.gather
  refine congrArg x (funext fun a => Fin.ext ?_)
  show scalesDims.start (ix3 n h r) idx a + scalesDims.batchCoord (ix3 n h r) a + scalesDims.offCoord (ix3 n h r) a = _
  rw [GatherDims.batchCoord_eq_zero _ _ _ List.not_mem_nil, Nat.add_zero]
  have kept : ∀ a : Fin 3, a ≠ 0 → scalesDims.start (ix3 n h r) idx a = 0 := fun a ha => by
    unfold GatherDims.start
    exact dif_neg fun hm => ha (List.mem_singleton.mp hm)
  match a with
  | ⟨0, _⟩ =>
    rw [GatherDims.offCoord_eq_zero _ _ _ (fun hm => ((GatherDims.mem_sKept _ _).mp hm).1 (List.mem_singleton.mpr rfl)), Nat.add_zero]
    have hm : (0 : Fin 3) ∈ scalesDims.startIndexMap := List.mem_singleton.mpr rfl
    unfold GatherDims.start
    refine (dif_pos hm).trans ?_
    have hsi : scalesDims.siIdx (ix3 n h r) ⟨List.idxOf (0 : Fin 3) scalesDims.startIndexMap, List.idxOf_lt_length_iff.2 hm⟩ = ix2 n 0 := by
      funext c; refine Fin.ext ?_
      match c with
      | ⟨0, _⟩ => rfl
      | ⟨1, _⟩ => rfl
    exact (congrArg (fun i => min (idx i).toInt.toNat (60 - 1)) hsi).trans (clamp_word _ b hb)
  | ⟨1, _⟩ => rw [kept _ (Fin.ne_of_val_ne (Nat.succ_ne_zero _))]; exact Nat.zero_add _
  | ⟨2, _⟩ => rw [kept _ (Fin.ne_of_val_ne (Nat.succ_ne_zero _))]; exact Nat.zero_add _

end Cert.ReferenceIdeal.Gen

end
-- ==== Proof.Value.RefHost.lean ====
/-
  The arrays that the reference's host lines hand to its region, entry by entry, as functions of the eight arguments.
-/
module

public import proofs.«01_k».proof.Proof.Value.Spec
public import proofs.«01_k».proof.Proof.Value.RefBlock
public import proofs.«01_k».proof.Proof.Value.Gather
public import Idealize.ShloMosaic.Lib.Routing.OpsPair
public import Idealize.ShloMosaic.Lib.Pointwise
public import Idealize.ShloMosaic.Lib.IdealHost
public import Idealize.ShloMosaic.Lib.StableHlo.RunRead

@[expose] public section

set_option maxRecDepth 16384

noncomputable section

namespace Cert.ReferenceIdeal.Gen

open Idealize.ShloMosaic Idealize.SL.Sem

variable (m : (ℓ : Loc nD τ sig) → Buf (Elt Ideal) ℓ) (c : Dev nD)

/-- The group of a value head. -/
def group (h : Fin 32) : Fin 16 := ⟨h.val / 2, by omega⟩

theorem host_key (n : Fin 48) (h : Fin 32) (r : Fin 128) :
    V m c main_v28 (ix3 n h r) = Spec.key (fun i => m (c, Proc.tc.devRef main_arg1) (ix4 n 0 (group h) i)) r := by
  unfold_abbrev_sides
  after_reads_simp
  pointwise []
  rfl

theorem host_query (n : Fin 48) (h : Fin 32) (r : Fin 128) :
    V m c main_v30 (ix3 n h r) = Spec.query (fun i => m (c, Proc.tc.devRef main_arg0) (ix4 n 0 (group h) i)) r := by
  unfold_abbrev_sides
  after_reads_simp
  pointwise []
  rfl

theorem host_value (n : Fin 48) (h : Fin 32) (d : Fin 256) :
    V m c main_v33 (ix3 n h d) = m (c, Proc.tc.devRef main_arg2) (ix4 n 0 h d) := by
  unfold_abbrev_sides
  after_reads_simp
  pointwise []

theorem host_decay (n : Fin 48) (h : Fin 32) :
    V m c main_v36 (ix3 n h 0) = Ideal.exp (m (c, Proc.tc.devRef main_arg3) (ix3 n 0 h)) := by
  unfold_abbrev_sides
  after_reads_simp
  pointwise []

theorem host_step (n : Fin 48) (h : Fin 32) :
    V m c main_v38 (ix3 n h 0) = m (c, Proc.tc.devRef main_arg4) (ix3 n 0 h) := by
  unfold_abbrev_sides
  after_reads_simp
  pointwise []

theorem host_product (n : Fin 48) (h : Fin 32) :
    V m c main_v39 (ix3 n h 0) = ∑ r, Spec.query (fun i => m (c, Proc.tc.devRef main_arg0) (ix4 n 0 (group h) i)) r
      * Spec.key (fun i => m (c, Proc.tc.devRef main_arg1) (ix4 n 0 (group h) i)) r := by
  unfold_abbrev_sides
  after_reads_simp
  pointwise []
  rfl

/-- The table of slots as the gathers take it: a slot that is not negative stays as it is. -/
theorem slot_word (w : BitVec 32) (b : Fin 60) (hb : w.toNat = b.val) :
    (Scalar.select (IntOp.cmpi .slt w 0#32) (IntOp.addi w 60#32) w).toNat = b.val := by
  have := b.isLt
  rw [Routing.wrap_of_lt w _ (by omega)]
  exact hb

theorem host_codes (n : Fin 48) (h : Fin 32) (r : Fin 128) (d : Fin 256) (b : Fin 60)
    (hb : (m (c, Proc.tc.devRef main_arg7) (ix1 n)).toNat = b.val) :
    V m c main_v46 (ix4 n h r d) = m (c, Proc.tc.devRef main_arg5) (ix4 b h r d) := by
  unfold_abbrev_sides
  after_reads_simp
  refine gather_codes _ _ n h r d b ?_
  pointwise []
  exact slot_word _ b hb

theorem host_scales (n : Fin 48) (h : Fin 32) (r : Fin 128) (b : Fin 60)
    (hb : (m (c, Proc.tc.devRef main_arg7) (ix1 n)).toNat = b.val) :
    V m c main_v53 (ix3 n h r) = m (c, Proc.tc.devRef main_arg6) (ix3 b h r) := by
  unfold_abbrev_sides
  after_reads_simp
  refine gather_scales _ _ n h r b ?_
  pointwise []
  exact slot_word _ b hb

/-- Row `n`, head `h` of the eight arrays, where slot `n` names row `b` of the pool. -/
theorem host_holds (n : Fin 48) (h : Fin 32) (b : Fin 60) (hb : (m (c, Proc.tc.devRef main_arg7) (ix1 n)).toNat = b.val) :
    Holds (V m c main_v28) (V m c main_v30) (V m c main_v33) (V m c main_v36) (V m c main_v38) (V m c main_v39)
      (V m c main_v46) (V m c main_v53) n h
      (fun i => m (c, Proc.tc.devRef main_arg0) (ix4 n 0 (group h) i)) (fun i => m (c, Proc.tc.devRef main_arg1) (ix4 n 0 (group h) i))
      (fun r => m (c, Proc.tc.devRef main_arg6) (ix3 b h r)) (fun r d => m (c, Proc.tc.devRef main_arg5) (ix4 b h r d))
      (fun d => m (c, Proc.tc.devRef main_arg2) (ix4 n 0 h d)) (m (c, Proc.tc.devRef main_arg3) (ix3 n 0 h)) (m (c, Proc.tc.devRef main_arg4) (ix3 n 0 h)) where
  key := host_key m c n h
  query := host_query m c n h
  value := host_value m c n h
  decay := host_decay m c n h
  step := host_step m c n h
  product := host_product m c n h
  codes r d := host_codes m c n h r d b hb
  scales r := host_scales m c n h r b hb

end Cert.ReferenceIdeal.Gen

end
-- ==== Proof.Value.RefArray.lean ====
/-
  The reference's three result arrays after its run at the ideal instance, entry by entry, as functions of the eight
  arguments.
-/
module

public import proofs.«01_k».proof.Proof.Value.RefHost
public import Idealize.ShloMosaic.Lib.Pipeline.ValueKit

@[expose] public section

set_option maxRecDepth 16384

noncomputable section

namespace Cert.ReferenceIdeal.Gen

open Idealize.ShloMosaic hiding ix1 ix2 ix3 ix4
open Idealize.ShloMosaic.TcCoe Idealize.SL.Sem
open Idealize.ShloMosaic.ValueIdx

section
variable {F : FTy → Type} [FloatOps F]
variable (m : (ℓ : Loc nD τ sig) → Buf (Elt F) ℓ) (c : Dev nD)

/-- The region's only point. -/
abbrev point : Fin cfg0.N := ⟨0, by decide⟩

theorem iblk0 (t : Fin cfg0.N) : iblk m c 0 t = V m c main_v28 :=
  funext fun y => congrArg (V m c main_v28) (funext fun a => Fin.ext (by show 0 * _ + 1 * (y a).val = (y a).val; omega))
theorem iblk1 (t : Fin cfg0.N) : iblk m c 1 t = V m c main_v30 :=
  funext fun y => congrArg (V m c main_v30) (funext fun a => Fin.ext (by show 0 * _ + 1 * (y a).val = (y a).val; omega))
theorem iblk2 (t : Fin cfg0.N) : iblk m c 2 t = V m c main_v33 :=
  funext fun y => congrArg (V m c main_v33) (funext fun a => Fin.ext (by show 0 * _ + 1 * (y a).val = (y a).val; omega))
theorem iblk3 (t : Fin cfg0.N) : iblk m c 3 t = V m c main_v36 :=
  funext fun y => congrArg (V m c main_v36) (funext fun a => Fin.ext (by show 0 * _ + 1 * (y a).val = (y a).val; omega))
theorem iblk4 (t : Fin cfg0.N) : iblk m c 4 t = V m c main_v38 :=
  funext fun y => congrArg (V m c main_v38) (funext fun a => Fin.ext (by show 0 * _ + 1 * (y a).val = (y a).val; omega))
theorem iblk5 (t : Fin cfg0.N) : iblk m c 5 t = V m c main_v39 :=
  funext fun y => congrArg (V m c main_v39) (funext fun a => Fin.ext (by show 0 * _ + 1 * (y a).val = (y a).val; omega))
theorem iblk6 (t : Fin cfg0.N) : iblk m c 6 t = V m c main_v46 :=
  funext fun y => congrArg (V m c main_v46) (funext fun a => Fin.ext (by show 0 * _ + 1 * (y a).val = (y a).val; omega))
theorem iblk7 (t : Fin cfg0.N) : iblk m c 7 t = V m c main_v53 :=
  funext fun y => congrArg (V m c main_v53) (funext fun a => Fin.ext (by show 0 * _ + 1 * (y a).val = (y a).val; omega))

/-- The first result is what the region's body leaves of the host lines' arrays. -/
theorem array_body8 : (dats m 0 c).arrAt 8 cfg0.N
    = out0_8 (V m c main_v28) (V m c main_v30) (V m c main_v33) (V m c main_v36) (V m c main_v38) (V m c main_v39) (V m c main_v46) (V m c main_v53) := by
  refine (dats m 0 c).arrAt_eq_of_after_last 8 point (by decide +kernel) _ fun j => ?_
  rw [← iblk0 m c point, ← iblk1 m c point, ← iblk2 m c point, ← iblk3 m c point, ← iblk4 m c point, ← iblk5 m c point, ← iblk6 m c point, ← iblk7 m c point, ← after0_8]
  rfl

/-- The second result likewise. -/
theorem array_body9 : (dats m 0 c).arrAt 9 cfg0.N
    = out0_9 (V m c main_v28) (V m c main_v30) (V m c main_v33) (V m c main_v36) (V m c main_v38) (V m c main_v39) (V m c main_v46) (V m c main_v53) := by
  refine (dats m 0 c).arrAt_eq_of_after_last 9 point (by decide +kernel) _ fun j => ?_
  rw [← iblk0 m c point, ← iblk1 m c point, ← iblk2 m c point, ← iblk3 m c point, ← iblk4 m c point, ← iblk5 m c point, ← iblk6 m c point, ← iblk7 m c point, ← after0_9]
  rfl

/-- The third result likewise. -/
theorem array_body10 : (dats m 0 c).arrAt 10 cfg0.N
    = out0_10 (V m c main_v28) (V m c main_v30) (V m c main_v33) (V m c main_v36) (V m c main_v38) (V m c main_v39) (V m c main_v46) (V m c main_v53) := by
  refine (dats m 0 c).arrAt_eq_of_after_last 10 point (by decide +kernel) _ fun j => ?_
  rw [← iblk0 m c point, ← iblk1 m c point, ← iblk2 m c point, ← iblk3 m c point, ← iblk4 m c point, ← iblk5 m c point, ← iblk6 m c point, ← iblk7 m c point, ← after0_10]
  rfl

end

end Cert.ReferenceIdeal.Gen

end
-- ==== Proof.Value.Equal.lean ====
/-
  From arguments that agree, the kernel's ideal reading and the reference leave the same three results.
-/
module

public import proofs.«01_k».proof.Defs
public import proofs.«01_k».proof.Proof.Pool
public import proofs.«01_k».proof.Proof.Value.KernelArray
public import proofs.«01_k».proof.Proof.Value.RefArray

@[expose] public section

set_option maxRecDepth 16384

noncomputable section

namespace Cert.Equal

open Idealize.ShloMosaic hiding ix1 ix2 ix3 ix4
open Idealize.ShloMosaic.TcCoe Idealize.SL.Sem
open Idealize.ShloMosaic.ValueIdx

/-- A kernel's memory. -/
abbrev KMem := (ℓ : Loc Cert.KernelIdeal.nD Cert.KernelIdeal.τ Cert.KernelIdeal.sig) → Buf (Elt Ideal) ℓ
/-- A reference's memory. -/
abbrev RMem := (ℓ : Loc Cert.ReferenceIdeal.nD Cert.ReferenceIdeal.τ Cert.ReferenceIdeal.sig) → Buf (Elt Ideal) ℓ

/-- The two memories hold the same arguments. -/
structure Agree (m : KMem) (m' : RMem) : Prop where
  query : m' ((0 : Dev Cert.ReferenceIdeal.nD), Proc.tc.devRef Cert.ReferenceIdeal.main_arg0) = m ((0 : Dev Cert.KernelIdeal.nD), Proc.tc.devRef Cert.KernelIdeal.main_arg0)
  key : m' ((0 : Dev Cert.ReferenceIdeal.nD), Proc.tc.devRef Cert.ReferenceIdeal.main_arg1) = m ((0 : Dev Cert.KernelIdeal.nD), Proc.tc.devRef Cert.KernelIdeal.main_arg1)
  value : m' ((0 : Dev Cert.ReferenceIdeal.nD), Proc.tc.devRef Cert.ReferenceIdeal.main_arg2) = m ((0 : Dev Cert.KernelIdeal.nD), Proc.tc.devRef Cert.KernelIdeal.main_arg2)
  decay : m' ((0 : Dev Cert.ReferenceIdeal.nD), Proc.tc.devRef Cert.ReferenceIdeal.main_arg3) = m ((0 : Dev Cert.KernelIdeal.nD), Proc.tc.devRef Cert.KernelIdeal.main_arg3)
  step : m' ((0 : Dev Cert.ReferenceIdeal.nD), Proc.tc.devRef Cert.ReferenceIdeal.main_arg4) = m ((0 : Dev Cert.KernelIdeal.nD), Proc.tc.devRef Cert.KernelIdeal.main_arg4)
  codes : m' ((0 : Dev Cert.ReferenceIdeal.nD), Proc.tc.devRef Cert.ReferenceIdeal.main_arg5) = m ((0 : Dev Cert.KernelIdeal.nD), Proc.tc.devRef Cert.KernelIdeal.main_arg5)
  scales : m' ((0 : Dev Cert.ReferenceIdeal.nD), Proc.tc.devRef Cert.ReferenceIdeal.main_arg6) = m ((0 : Dev Cert.KernelIdeal.nD), Proc.tc.devRef Cert.KernelIdeal.main_arg6)
  slots : m' ((0 : Dev Cert.ReferenceIdeal.nD), Proc.tc.devRef Cert.ReferenceIdeal.main_arg7) = m ((0 : Dev Cert.KernelIdeal.nD), Proc.tc.devRef Cert.KernelIdeal.main_arg7)

section
variable (m : KMem) (m' : RMem) (hA : Agree m m') (slot : Fin 48 → Fin 60)
  (hs : ∀ n, (Cert.KernelIdeal.Gen.tbl m 0 (ix1 n : Cert.KernelIdeal.S48.Idx)).toNat = (slot n).val)
include hA hs

/-- What the reference's region is handed for row `n`, head `h`, in terms of the kernel's arguments. -/
theorem holds (n : Fin 48) (h : Fin 32) :
    Cert.ReferenceIdeal.Gen.Holds (Cert.ReferenceIdeal.Gen.V m' 0 Cert.ReferenceIdeal.main_v28) (Cert.ReferenceIdeal.Gen.V m' 0 Cert.ReferenceIdeal.main_v30)
      (Cert.ReferenceIdeal.Gen.V m' 0 Cert.ReferenceIdeal.main_v33) (Cert.ReferenceIdeal.Gen.V m' 0 Cert.ReferenceIdeal.main_v36)
      (Cert.ReferenceIdeal.Gen.V m' 0 Cert.ReferenceIdeal.main_v38) (Cert.ReferenceIdeal.Gen.V m' 0 Cert.ReferenceIdeal.main_v39)
      (Cert.ReferenceIdeal.Gen.V m' 0 Cert.ReferenceIdeal.main_v46) (Cert.ReferenceIdeal.Gen.V m' 0 Cert.ReferenceIdeal.main_v53) n h
      (Cert.KernelIdeal.Gen.argQuery m n h) (Cert.KernelIdeal.Gen.argKey m n h) (Cert.KernelIdeal.Gen.argScale m (slot n) h)
      (Cert.KernelIdeal.Gen.argCode m (slot n) h) (Cert.KernelIdeal.Gen.argValue m n h) (Cert.KernelIdeal.Gen.argDecay m n h)
      (Cert.KernelIdeal.Gen.argStep m n h) := by
  have H := Cert.ReferenceIdeal.Gen.host_holds m' 0 n h (slot n) ((congrArg BitVec.toNat (congrFun hA.slots _)).trans (hs n))
  rw [hA.query, hA.key, hA.value, hA.decay, hA.step, hA.codes, hA.scales] at H
  exact H

theorem reference_out (c : Dev Cert.ReferenceIdeal.nD) :
    (Cert.ReferenceIdeal.Gen.dats m' 0 c).arrAt 8 Cert.ReferenceIdeal.cfg0.N = Cert.KernelIdeal.Gen.resultOut m slot := by
  obtain rfl : c = 0 := Subsingleton.elim _ _
  rw [Cert.ReferenceIdeal.Gen.array_body8]
  funext (y : Cert.KernelIdeal.S48x32x256.Idx)
  exact (congrArg _ (ValueIdx.eq_ix3 y)).trans ((holds m m' hA slot hs (y 0) (y 1)).out (y 2))

theorem reference_code (c : Dev Cert.ReferenceIdeal.nD) :
    (Cert.ReferenceIdeal.Gen.dats m' 0 c).arrAt 9 Cert.ReferenceIdeal.cfg0.N = Cert.KernelIdeal.Gen.resultCode m slot := by
  obtain rfl : c = 0 := Subsingleton.elim _ _
  rw [Cert.ReferenceIdeal.Gen.array_body9]
  funext (y : Cert.KernelIdeal.S48x32x128x256.Idx)
  exact (congrArg _ (ValueIdx.eq_ix4 y)).trans ((holds m m' hA slot hs (y 0) (y 1)).code (y 2) (y 3))

theorem reference_scale (c : Dev Cert.ReferenceIdeal.nD) :
    (Cert.ReferenceIdeal.Gen.dats m' 0 c).arrAt 10 Cert.ReferenceIdeal.cfg0.N = Cert.KernelIdeal.Gen.resultScale m slot := by
  obtain rfl : c = 0 := Subsingleton.elim _ _
  rw [Cert.ReferenceIdeal.Gen.array_body10]
  funext (y : Cert.KernelIdeal.S48x32x128.Idx)
  exact (congrArg _ (ValueIdx.eq_ix3 y)).trans ((holds m m' hA slot hs (y 0) (y 1)).scale (y 2))

end

/-- The kernel's ideal reading and the reference leave the same results from arguments that agree and whose table names
    rows of the pool. -/
theorem algebraic [Cert.KernelIdeal.Facts] [Cert.ReferenceIdeal.Facts] [Cert.Pre_slots_in_pool.Facts] :
    Cert.algebraic_KernelIdeal_ReferenceIdeal := fun m g m' g' hpre hagree => by
  have hlt : ∀ x, (m ((0 : Dev Cert.KernelIdeal.nD), Proc.tc.devRef Cert.KernelIdeal.main_arg7) x).toNat < 60 := fun x => Pool.slot_lt _ _ _ _ _ _ _ _ (hpre 0) x
  have hO : Cert.KernelIdeal.Gen.Ok m := Cert.KernelIdeal.Gen.ok_of_slots _ fun _ => hlt _
  let slot : Fin 48 → Fin 60 := fun n => ⟨_, hlt (ix1 n)⟩
  have hs : ∀ n, (Cert.KernelIdeal.Gen.tbl m 0 (ix1 n : Cert.KernelIdeal.S48.Idx)).toNat = (slot n).val := fun n => rfl
  obtain ⟨h0, h1, h2, h3, h4, h5, h6, h7⟩ := hagree 0
  have hA : Agree m m' := ⟨h0, h1, h2, h3, h4, h5, h6, h7⟩
  refine ⟨fun _ => Cert.KernelIdeal.Gen.resultOut m slot, fun _ => Cert.KernelIdeal.Gen.resultCode m slot, fun _ => Cert.KernelIdeal.Gen.resultScale m slot, ?_, ?_⟩
  · exact (θ_run _ _ _).mono (fun r h c => ⟨((h.1 c).1 7).trans (Cert.KernelIdeal.Gen.array_out m hO slot hs c),
      ((h.1 c).1 8).trans (Cert.KernelIdeal.Gen.array_code m hO slot hs c), ((h.1 c).1 9).trans (Cert.KernelIdeal.Gen.array_scale m hO slot hs c), h.2 c⟩)
      (θ_run_and (Cert.KernelIdeal.Gen.run_main m g hO) (Cert.KernelIdeal.Gen.unchanged m g hO))
  · exact (θ_run _ _ _).mono (fun r h c => ⟨((h.1 c).1 8).trans (reference_out m m' hA slot hs c),
      ((h.1 c).1 9).trans (reference_code m m' hA slot hs c), ((h.1 c).1 10).trans (reference_scale m m' hA slot hs c), h.2 c⟩)
      (θ_run_and (Cert.ReferenceIdeal.Gen.run_main m' g') (Cert.ReferenceIdeal.Gen.unchanged m' g'))

end Cert.Equal

end
-- ==== Proof.lean ====
/-
  The claims: the kernel, its ideal reading and the reference run, end with every counter at zero and leave their arguments
  as they were, the ideal reading computes what the kernel's text says, and it leaves the reference's three results.
-/
module

public import proofs.«01_k».proof.Defs
public import proofs.«01_k».proof.Proof.Pool
public import proofs.«01_k».proof.Proof.Kernel.Frame
public import proofs.«01_k».proof.Proof.Kernel.Slots
public import proofs.«01_k».proof.Proof.KernelIdeal.Frame
public import proofs.«01_k».proof.Proof.KernelIdeal.Slots
public import proofs.«01_k».proof.Proof.Gen.ReferenceIdeal.Frame
public import proofs.«01_k».proof.Proof.Value.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_slots_in_pool.Gen.facts,
    fun m ρ h => Cert.Kernel.Gen.frame m ρ (Cert.Kernel.Gen.ok_of_slots _ fun _ => Pool.slot_lt _ _ _ _ _ _ _ _ (h 0) _),
    fun m ρ h => Cert.KernelIdeal.Gen.frame m ρ (Cert.KernelIdeal.Gen.ok_of_slots _ fun _ => Pool.slot_lt _ _ _ _ _ _ _ _ (h 0) _),
    fun m ρ _ => Cert.ReferenceIdeal.Gen.frame m ρ,
    fun m ρ _ => Cert.ReferenceIdeal.Gen.frame m ρ,
    trivial,
    Cert.Equal.algebraic⟩

end Cert.Proof

end
